-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x64 : Shape := ⟨2, ![100000, 64]⟩
abbrev S64x100000x1 : Shape := ⟨3, ![64, 100000, 1]⟩
abbrev S_ : Shape := ⟨0, ![]⟩
abbrev S6400000 : Shape := ⟨1, ![6400000]⟩
abbrev S4096 : Shape := ⟨1, ![4096]⟩
abbrev S20000 : Shape := ⟨1, ![20000]⟩
abbrev S64 : Shape := ⟨1, ![64]⟩
abbrev S16 : Shape := ⟨1, ![16]⟩
abbrev S1 : Shape := ⟨1, ![1]⟩
abbrev S64x64 : Shape := ⟨2, ![64, 64]⟩

abbrev nBuf : Table → Nat
  | .hbm => 7
  | .local .scVector .vmem => 3
  | _ => 0

abbrev bufTy : (tb : Table) → Fin (nBuf tb) → BufTy
  | .hbm, ⟨0, _⟩ => ⟨S100000x64, .f32⟩
  | .hbm, ⟨1, _⟩ => ⟨S64x100000x1, .f32⟩
  | .hbm, ⟨2, _⟩ => ⟨S_, .i32⟩
  | .hbm, ⟨3, _⟩ => ⟨S6400000, .f32⟩
  | .hbm, ⟨4, _⟩ => ⟨S6400000, .f32⟩
  | .hbm, ⟨5, _⟩ => ⟨S4096, .f32⟩
  | .hbm, ⟨6, _⟩ => ⟨S64x64, .f32⟩
  | .local .scVector .vmem, ⟨0, _⟩ => ⟨S20000, .f32⟩
  | .local .scVector .vmem, ⟨1, _⟩ => ⟨S20000, .f32⟩
  | .local .scVector .vmem, ⟨2, _⟩ => ⟨S64, .f32⟩
  | _, _ => ⟨S100000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let c100000_i32 : BitVec 32 := 100000#32
  let v5 : BitVec 32 := Scalar.muli v4 c100000_i32
  let c0_i32_1 : BitVec 32 := 0#32
  let v6 : BitVec 32 := Scalar.addi v5 c0_i32_1
  v6
def k0_off1 (i : grid0.Coords) (c0_i32 : BitVec 32) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let v4 : BitVec 32 := Scalar.addi v3 c0_i32
  let c100000_i32 : BitVec 32 := 100000#32
  let v5 : BitVec 32 := Scalar.muli v4 c100000_i32
  let v6 : BitVec 32 := Scalar.addi v5 c0_i32_1
  let v7 : BitVec 32 := v6
  ![v7.toNat]
def k0_off1_at (r : Fin 6) : BitVec 32 × BitVec 32 :=
  if r.val < 3 then
    if r.val < 1 then
      (0#32, 0#32)
    else
      if r.val < 2 then
        (0#32, 20000#32)
      else
        (0#32, 40000#32)
  else
    if r.val < 4 then
      (0#32, 60000#32)
    else
      if r.val < 5 then
        (0#32, 80000#32)
      else
        (1#32, 0#32)
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_2 : BitVec 32 := 2#32
  let v10 : BitVec 32 := Scalar.muli v1 c2_i32_2
  let c0_i32_3 : BitVec 32 := 0#32
  let v11 : BitVec 32 := Scalar.addi v10 c0_i32_3
  let c100000_i32_4 : BitVec 32 := 100000#32
  let v12 : BitVec 32 := Scalar.muli v11 c100000_i32_4
  let c20000_i32 : BitVec 32 := 20000#32
  let v13 : BitVec 32 := Scalar.addi v12 c20000_i32
  v13
@[reducible] def k0_t1_loop : Scf.Loop 32 :=
  let c0_i32_6 : BitVec 32 := 0#32
  let c1250_i32 : BitVec 32 := 1250#32
  let v21 : BitVec 32 := Scalar.addi c0_i32_6 c1250_i32
  let c1_i32 : BitVec 32 := 1#32
  ⟨c0_i32_6, v21, c1_i32⟩
def k0_off2 (k0_t1 : Fin k0_t1_loop.trips) : Fin 1 → Nat :=
  let c0_i32_6 : BitVec 32 := 0#32
  let c1_i32 : BitVec 32 := 1#32
  let arg10 : BitVec 32 := Scf.iv c0_i32_6 c1_i32 k0_t1
  let c16_i32 : BitVec 32 := 16#32
  let v467 : BitVec 32 := Scalar.muli arg10 c16_i32
  let v468 : Index := Scalar.indexCast v467
  ![v468.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_8 : BitVec 32 := 2#32
  let v23 : BitVec 32 := Scalar.muli v1 c2_i32_8
  let c0_i32_9 : BitVec 32 := 0#32
  let v24 : BitVec 32 := Scalar.addi v23 c0_i32_9
  let c100000_i32_10 : BitVec 32 := 100000#32
  let v25 : BitVec 32 := Scalar.muli v24 c100000_i32_10
  let c40000_i32 : BitVec 32 := 40000#32
  let v26 : BitVec 32 := Scalar.addi v25 c40000_i32
  v26
@[reducible] def k0_t2_loop : Scf.Loop 32 :=
  let c0_i32_11 : BitVec 32 := 0#32
  let c1250_i32_12 : BitVec 32 := 1250#32
  let v32 : BitVec 32 := Scalar.addi c0_i32_11 c1250_i32_12
  let c1_i32_13 : BitVec 32 := 1#32
  ⟨c0_i32_11, v32, c1_i32_13⟩
def k0_off3 (k0_t2 : Fin k0_t2_loop.trips) : Fin 1 → Nat :=
  let c0_i32_11 : BitVec 32 := 0#32
  let c1_i32_13 : BitVec 32 := 1#32
  let arg10 : BitVec 32 := Scf.iv c0_i32_11 c1_i32_13 k0_t2
  let c16_i32 : BitVec 32 := 16#32
  let v467 : BitVec 32 := Scalar.muli arg10 c16_i32
  let v468 : Index := Scalar.indexCast v467
  ![v468.toNat]
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_15 : BitVec 32 := 2#32
  let v34 : BitVec 32 := Scalar.muli v1 c2_i32_15
  let c0_i32_16 : BitVec 32 := 0#32
  let v35 : BitVec 32 := Scalar.addi v34 c0_i32_16
  let c100000_i32_17 : BitVec 32 := 100000#32
  let v36 : BitVec 32 := Scalar.muli v35 c100000_i32_17
  let c60000_i32 : BitVec 32 := 60000#32
  let v37 : BitVec 32 := Scalar.addi v36 c60000_i32
  v37
@[reducible] def k0_t3_loop : Scf.Loop 32 :=
  let c0_i32_18 : BitVec 32 := 0#32
  let c1250_i32_19 : BitVec 32 := 1250#32
  let v43 : BitVec 32 := Scalar.addi c0_i32_18 c1250_i32_19
  let c1_i32_20 : BitVec 32 := 1#32
  ⟨c0_i32_18, v43, c1_i32_20⟩
def k0_off4 (k0_t3 : Fin k0_t3_loop.trips) : Fin 1 → Nat :=
  let c0_i32_18 : BitVec 32 := 0#32
  let c1_i32_20 : BitVec 32 := 1#32
  let arg10 : BitVec 32 := Scf.iv c0_i32_18 c1_i32_20 k0_t3
  let c16_i32 : BitVec 32 := 16#32
  let v467 : BitVec 32 := Scalar.muli arg10 c16_i32
  let v468 : Index := Scalar.indexCast v467
  ![v468.toNat]
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_22 : BitVec 32 := 2#32
  let v45 : BitVec 32 := Scalar.muli v1 c2_i32_22
  let c0_i32_23 : BitVec 32 := 0#32
  let v46 : BitVec 32 := Scalar.addi v45 c0_i32_23
  let c100000_i32_24 : BitVec 32 := 100000#32
  let v47 : BitVec 32 := Scalar.muli v46 c100000_i32_24
  let c80000_i32 : BitVec 32 := 80000#32
  let v48 : BitVec 32 := Scalar.addi v47 c80000_i32
  v48
@[reducible] def k0_t4_loop : Scf.Loop 32 :=
  let c0_i32_25 : BitVec 32 := 0#32
  let c1250_i32_26 : BitVec 32 := 1250#32
  let v54 : BitVec 32 := Scalar.addi c0_i32_25 c1250_i32_26
  let c1_i32_27 : BitVec 32 := 1#32
  ⟨c0_i32_25, v54, c1_i32_27⟩
def k0_off5 (k0_t4 : Fin k0_t4_loop.trips) : Fin 1 → Nat :=
  let c0_i32_25 : BitVec 32 := 0#32
  let c1_i32_27 : BitVec 32 := 1#32
  let arg10 : BitVec 32 := Scf.iv c0_i32_25 c1_i32_27 k0_t4
  let c16_i32 : BitVec 32 := 16#32
  let v467 : BitVec 32 := Scalar.muli arg10 c16_i32
  let v468 : Index := Scalar.indexCast v467
  ![v468.toNat]
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_29 : BitVec 32 := 2#32
  let v56 : BitVec 32 := Scalar.muli v1 c2_i32_29
  let c1_i32_30 : BitVec 32 := 1#32
  let v57 : BitVec 32 := Scalar.addi v56 c1_i32_30
  let c100000_i32_31 : BitVec 32 := 100000#32
  let v58 : BitVec 32 := Scalar.muli v57 c100000_i32_31
  let c0_i32_32 : BitVec 32 := 0#32
  let v59 : BitVec 32 := Scalar.addi v58 c0_i32_32
  v59
@[reducible] def k0_t5_loop : Scf.Loop 32 :=
  let c0_i32_33 : BitVec 32 := 0#32
  let c1250_i32_34 : BitVec 32 := 1250#32
  let v65 : BitVec 32 := Scalar.addi c0_i32_33 c1250_i32_34
  let c1_i32_35 : BitVec 32 := 1#32
  ⟨c0_i32_33, v65, c1_i32_35⟩
def k0_off6 (k0_t5 : Fin k0_t5_loop.trips) : Fin 1 → Nat :=
  let c0_i32_33 : BitVec 32 := 0#32
  let c1_i32_35 : BitVec 32 := 1#32
  let arg10 : BitVec 32 := Scf.iv c0_i32_33 c1_i32_35 k0_t5
  let c16_i32 : BitVec 32 := 16#32
  let v467 : BitVec 32 := Scalar.muli arg10 c16_i32
  let v468 : Index := Scalar.indexCast v467
  ![v468.toNat]
def k0_mult7 (v70 : BitVec 32) (v74 : BitVec 32) (v75 : BitVec 1) (v76 : BitVec 1) (v85 : BitVec 32) (v86 : BitVec 1) (v87 : BitVec 1) (v96 : BitVec 32) (v97 : BitVec 1) (v98 : BitVec 1) (v107 : BitVec 32) (v108 : BitVec 1) (v109 : BitVec 1) (v118 : BitVec 32) (v119 : BitVec 1) (v120 : BitVec 1) (v129 : BitVec 32) (v130 : BitVec 1) (v131 : BitVec 1) (v140 : BitVec 32) (v141 : BitVec 1) (v142 : BitVec 1) (v151 : BitVec 32) (v152 : BitVec 1) (v153 : BitVec 1) (v162 : BitVec 32) (v163 : BitVec 1) (v164 : BitVec 1) (v173 : BitVec 32) (v174 : BitVec 1) (v175 : BitVec 1) (v184 : BitVec 32) (v185 : BitVec 1) (v186 : BitVec 1) (v195 : BitVec 32) (v196 : BitVec 1) (v197 : BitVec 1) (v206 : BitVec 32) (v207 : BitVec 1) (v208 : BitVec 1) (v217 : BitVec 32) (v218 : BitVec 1) (v219 : BitVec 1) (v228 : BitVec 32) (v229 : BitVec 1) (v230 : BitVec 1) : BitVec 32 :=
  let v77 : BitVec 1 := Scalar.cmpi .slt v74 v70
  let v78 : BitVec 1 := Scalar.andi v76 v77
  let v79 : BitVec 1 := Scalar.ori v75 v78
  let v81 : BitVec 32 := Scalar.select v79 v74 v70
  let v88 : BitVec 1 := Scalar.cmpi .slt v85 v81
  let v89 : BitVec 1 := Scalar.andi v87 v88
  let v90 : BitVec 1 := Scalar.ori v86 v89
  let v92 : BitVec 32 := Scalar.select v90 v85 v81
  let v99 : BitVec 1 := Scalar.cmpi .slt v96 v92
  let v100 : BitVec 1 := Scalar.andi v98 v99
  let v101 : BitVec 1 := Scalar.ori v97 v100
  let v103 : BitVec 32 := Scalar.select v101 v96 v92
  let v110 : BitVec 1 := Scalar.cmpi .slt v107 v103
  let v111 : BitVec 1 := Scalar.andi v109 v110
  let v112 : BitVec 1 := Scalar.ori v108 v111
  let v114 : BitVec 32 := Scalar.select v112 v107 v103
  let v121 : BitVec 1 := Scalar.cmpi .slt v118 v114
  let v122 : BitVec 1 := Scalar.andi v120 v121
  let v123 : BitVec 1 := Scalar.ori v119 v122
  let v125 : BitVec 32 := Scalar.select v123 v118 v114
  let v132 : BitVec 1 := Scalar.cmpi .slt v129 v125
  let v133 : BitVec 1 := Scalar.andi v131 v132
  let v134 : BitVec 1 := Scalar.ori v130 v133
  let v136 : BitVec 32 := Scalar.select v134 v129 v125
  let v143 : BitVec 1 := Scalar.cmpi .slt v140 v136
  let v144 : BitVec 1 := Scalar.andi v142 v143
  let v145 : BitVec 1 := Scalar.ori v141 v144
  let v147 : BitVec 32 := Scalar.select v145 v140 v136
  let v154 : BitVec 1 := Scalar.cmpi .slt v151 v147
  let v155 : BitVec 1 := Scalar.andi v153 v154
  let v156 : BitVec 1 := Scalar.ori v152 v155
  let v158 : BitVec 32 := Scalar.select v156 v151 v147
  let v165 : BitVec 1 := Scalar.cmpi .slt v162 v158
  let v166 : BitVec 1 := Scalar.andi v164 v165
  let v167 : BitVec 1 := Scalar.ori v163 v166
  let v169 : BitVec 32 := Scalar.select v167 v162 v158
  let v176 : BitVec 1 := Scalar.cmpi .slt v173 v169
  let v177 : BitVec 1 := Scalar.andi v175 v176
  let v178 : BitVec 1 := Scalar.ori v174 v177
  let v180 : BitVec 32 := Scalar.select v178 v173 v169
  let v187 : BitVec 1 := Scalar.cmpi .slt v184 v180
  let v188 : BitVec 1 := Scalar.andi v186 v187
  let v189 : BitVec 1 := Scalar.ori v185 v188
  let v191 : BitVec 32 := Scalar.select v189 v184 v180
  let v198 : BitVec 1 := Scalar.cmpi .slt v195 v191
  let v199 : BitVec 1 := Scalar.andi v197 v198
  let v200 : BitVec 1 := Scalar.ori v196 v199
  let v202 : BitVec 32 := Scalar.select v200 v195 v191
  let v209 : BitVec 1 := Scalar.cmpi .slt v206 v202
  let v210 : BitVec 1 := Scalar.andi v208 v209
  let v211 : BitVec 1 := Scalar.ori v207 v210
  let v213 : BitVec 32 := Scalar.select v211 v206 v202
  let v220 : BitVec 1 := Scalar.cmpi .slt v217 v213
  let v221 : BitVec 1 := Scalar.andi v219 v220
  let v222 : BitVec 1 := Scalar.ori v218 v221
  let v224 : BitVec 32 := Scalar.select v222 v217 v213
  let v231 : BitVec 1 := Scalar.cmpi .slt v228 v224
  let v232 : BitVec 1 := Scalar.andi v230 v231
  let v233 : BitVec 1 := Scalar.ori v229 v232
  let v235 : BitVec 32 := Scalar.select v233 v228 v224
  let c64_i32 : BitVec 32 := 64#32
  let v238 : BitVec 32 := Scalar.muli v235 c64_i32
  v238

def k0_off7 (v70 : BitVec 32) (v74 : BitVec 32) (v75 : BitVec 1) (v76 : BitVec 1) (v85 : BitVec 32) (v86 : BitVec 1) (v87 : BitVec 1) (v96 : BitVec 32) (v97 : BitVec 1) (v98 : BitVec 1) (v107 : BitVec 32) (v108 : BitVec 1) (v109 : BitVec 1) (v118 : BitVec 32) (v119 : BitVec 1) (v120 : BitVec 1) (v129 : BitVec 32) (v130 : BitVec 1) (v131 : BitVec 1) (v140 : BitVec 32) (v141 : BitVec 1) (v142 : BitVec 1) (v151 : BitVec 32) (v152 : BitVec 1) (v153 : BitVec 1) (v162 : BitVec 32) (v163 : BitVec 1) (v164 : BitVec 1) (v173 : BitVec 32) (v174 : BitVec 1) (v175 : BitVec 1) (v184 : BitVec 32) (v185 : BitVec 1) (v186 : BitVec 1) (v195 : BitVec 32) (v196 : BitVec 1) (v197 : BitVec 1) (v206 : BitVec 32) (v207 : BitVec 1) (v208 : BitVec 1) (v217 : BitVec 32) (v218 : BitVec 1) (v219 : BitVec 1) (v228 : BitVec 32) (v229 : BitVec 1) (v230 : BitVec 1) : Fin 1 → Nat :=
  let v77 : BitVec 1 := Scalar.cmpi .slt v74 v70
  let v78 : BitVec 1 := Scalar.andi v76 v77
  let v79 : BitVec 1 := Scalar.ori v75 v78
  let v81 : BitVec 32 := Scalar.select v79 v74 v70
  let v88 : BitVec 1 := Scalar.cmpi .slt v85 v81
  let v89 : BitVec 1 := Scalar.andi v87 v88
  let v90 : BitVec 1 := Scalar.ori v86 v89
  let v92 : BitVec 32 := Scalar.select v90 v85 v81
  let v99 : BitVec 1 := Scalar.cmpi .slt v96 v92
  let v100 : BitVec 1 := Scalar.andi v98 v99
  let v101 : BitVec 1 := Scalar.ori v97 v100
  let v103 : BitVec 32 := Scalar.select v101 v96 v92
  let v110 : BitVec 1 := Scalar.cmpi .slt v107 v103
  let v111 : BitVec 1 := Scalar.andi v109 v110
  let v112 : BitVec 1 := Scalar.ori v108 v111
  let v114 : BitVec 32 := Scalar.select v112 v107 v103
  let v121 : BitVec 1 := Scalar.cmpi .slt v118 v114
  let v122 : BitVec 1 := Scalar.andi v120 v121
  let v123 : BitVec 1 := Scalar.ori v119 v122
  let v125 : BitVec 32 := Scalar.select v123 v118 v114
  let v132 : BitVec 1 := Scalar.cmpi .slt v129 v125
  let v133 : BitVec 1 := Scalar.andi v131 v132
  let v134 : BitVec 1 := Scalar.ori v130 v133
  let v136 : BitVec 32 := Scalar.select v134 v129 v125
  let v143 : BitVec 1 := Scalar.cmpi .slt v140 v136
  let v144 : BitVec 1 := Scalar.andi v142 v143
  let v145 : BitVec 1 := Scalar.ori v141 v144
  let v147 : BitVec 32 := Scalar.select v145 v140 v136
  let v154 : BitVec 1 := Scalar.cmpi .slt v151 v147
  let v155 : BitVec 1 := Scalar.andi v153 v154
  let v156 : BitVec 1 := Scalar.ori v152 v155
  let v158 : BitVec 32 := Scalar.select v156 v151 v147
  let v165 : BitVec 1 := Scalar.cmpi .slt v162 v158
  let v166 : BitVec 1 := Scalar.andi v164 v165
  let v167 : BitVec 1 := Scalar.ori v163 v166
  let v169 : BitVec 32 := Scalar.select v167 v162 v158
  let v176 : BitVec 1 := Scalar.cmpi .slt v173 v169
  let v177 : BitVec 1 := Scalar.andi v175 v176
  let v178 : BitVec 1 := Scalar.ori v174 v177
  let v180 : BitVec 32 := Scalar.select v178 v173 v169
  let v187 : BitVec 1 := Scalar.cmpi .slt v184 v180
  let v188 : BitVec 1 := Scalar.andi v186 v187
  let v189 : BitVec 1 := Scalar.ori v185 v188
  let v191 : BitVec 32 := Scalar.select v189 v184 v180
  let v198 : BitVec 1 := Scalar.cmpi .slt v195 v191
  let v199 : BitVec 1 := Scalar.andi v197 v198
  let v200 : BitVec 1 := Scalar.ori v196 v199
  let v202 : BitVec 32 := Scalar.select v200 v195 v191
  let v209 : BitVec 1 := Scalar.cmpi .slt v206 v202
  let v210 : BitVec 1 := Scalar.andi v208 v209
  let v211 : BitVec 1 := Scalar.ori v207 v210
  let v213 : BitVec 32 := Scalar.select v211 v206 v202
  let v220 : BitVec 1 := Scalar.cmpi .slt v217 v213
  let v221 : BitVec 1 := Scalar.andi v219 v220
  let v222 : BitVec 1 := Scalar.ori v218 v221
  let v224 : BitVec 32 := Scalar.select v222 v217 v213
  let v231 : BitVec 1 := Scalar.cmpi .slt v228 v224
  let v232 : BitVec 1 := Scalar.andi v230 v231
  let v233 : BitVec 1 := Scalar.ori v229 v232
  let v235 : BitVec 32 := Scalar.select v233 v228 v224
  let c64_i32 : BitVec 32 := 64#32
  let v238 : BitVec 32 := Scalar.muli v235 c64_i32
  let v239 : BitVec 32 := v238
  ![v239.toNat]

def k0_chk1 (v70 : BitVec 32) (v74 : BitVec 32) (v75 : BitVec 1) (v76 : BitVec 1) (v85 : BitVec 32) (v86 : BitVec 1) (v87 : BitVec 1) (v96 : BitVec 32) (v97 : BitVec 1) (v98 : BitVec 1) (v107 : BitVec 32) (v108 : BitVec 1) (v109 : BitVec 1) (v118 : BitVec 32) (v119 : BitVec 1) (v120 : BitVec 1) (v129 : BitVec 32) (v130 : BitVec 1) (v131 : BitVec 1) (v140 : BitVec 32) (v141 : BitVec 1) (v142 : BitVec 1) (v151 : BitVec 32) (v152 : BitVec 1) (v153 : BitVec 1) (v162 : BitVec 32) (v163 : BitVec 1) (v164 : BitVec 1) (v173 : BitVec 32) (v174 : BitVec 1) (v175 : BitVec 1) (v184 : BitVec 32) (v185 : BitVec 1) (v186 : BitVec 1) (v195 : BitVec 32) (v196 : BitVec 1) (v197 : BitVec 1) (v206 : BitVec 32) (v207 : BitVec 1) (v208 : BitVec 1) (v217 : BitVec 32) (v218 : BitVec 1) (v219 : BitVec 1) (v228 : BitVec 32) (v229 : BitVec 1) (v230 : BitVec 1) : Prop :=
  (8 ∣ (k0_mult7 v70 v74 v75 v76 v85 v86 v87 v96 v97 v98 v107 v108 v109 v118 v119 v120 v129 v130 v131 v140 v141 v142 v151 v152 v153 v162 v163 v164 v173 v174 v175 v184 v185 v186 v195 v196 v197 v206 v207 v208 v217 v218 v219 v228 v229 v230).toNat) ∧
  (∀ a, (k0_off7 v70 v74 v75 v76 v85 v86 v87 v96 v97 v98 v107 v108 v109 v118 v119 v120 v129 v130 v131 v140 v141 v142 v151 v152 v153 v162 v163 v164 v173 v174 v175 v184 v185 v186 v195 v196 v197 v206 v207 v208 v217 v218 v219 v228 v229 v230) a + S64.size a ≤ S6400000.size a)
theorem k0_mult7_dvd : ∀ (v70 : BitVec 32) (v74 : BitVec 32) (v75 : BitVec 1) (v76 : BitVec 1) (v85 : BitVec 32) (v86 : BitVec 1) (v87 : BitVec 1) (v96 : BitVec 32) (v97 : BitVec 1) (v98 : BitVec 1) (v107 : BitVec 32) (v108 : BitVec 1) (v109 : BitVec 1) (v118 : BitVec 32) (v119 : BitVec 1) (v120 : BitVec 1) (v129 : BitVec 32) (v130 : BitVec 1) (v131 : BitVec 1) (v140 : BitVec 32) (v141 : BitVec 1) (v142 : BitVec 1) (v151 : BitVec 32) (v152 : BitVec 1) (v153 : BitVec 1) (v162 : BitVec 32) (v163 : BitVec 1) (v164 : BitVec 1) (v173 : BitVec 32) (v174 : BitVec 1) (v175 : BitVec 1) (v184 : BitVec 32) (v185 : BitVec 1) (v186 : BitVec 1) (v195 : BitVec 32) (v196 : BitVec 1) (v197 : BitVec 1) (v206 : BitVec 32) (v207 : BitVec 1) (v208 : BitVec 1) (v217 : BitVec 32) (v218 : BitVec 1) (v219 : BitVec 1) (v228 : BitVec 32) (v229 : BitVec 1) (v230 : BitVec 1) (k0_hw1 : k0_chk1 v70 v74 v75 v76 v85 v86 v87 v96 v97 v98 v107 v108 v109 v118 v119 v120 v129 v130 v131 v140 v141 v142 v151 v152 v153 v162 v163 v164 v173 v174 v175 v184 v185 v186 v195 v196 v197 v206 v207 v208 v217 v218 v219 v228 v229 v230), 8 ∣ (k0_mult7 v70 v74 v75 v76 v85 v86 v87 v96 v97 v98 v107 v108 v109 v118 v119 v120 v129 v130 v131 v140 v141 v142 v151 v152 v153 v162 v163 v164 v173 v174 v175 v184 v185 v186 v195 v196 v197 v206 v207 v208 v217 v218 v219 v228 v229 v230).toNat := fun v70 v74 v75 v76 v85 v86 v87 v96 v97 v98 v107 v108 v109 v118 v119 v120 v129 v130 v131 v140 v141 v142 v151 v152 v153 v162 v163 v164 v173 v174 v175 v184 v185 v186 v195 v196 v197 v206 v207 v208 v217 v218 v219 v228 v229 v230 k0_hw1 => k0_hw1.1
theorem k0_off7_inb : ∀ (v70 : BitVec 32) (v74 : BitVec 32) (v75 : BitVec 1) (v76 : BitVec 1) (v85 : BitVec 32) (v86 : BitVec 1) (v87 : BitVec 1) (v96 : BitVec 32) (v97 : BitVec 1) (v98 : BitVec 1) (v107 : BitVec 32) (v108 : BitVec 1) (v109 : BitVec 1) (v118 : BitVec 32) (v119 : BitVec 1) (v120 : BitVec 1) (v129 : BitVec 32) (v130 : BitVec 1) (v131 : BitVec 1) (v140 : BitVec 32) (v141 : BitVec 1) (v142 : BitVec 1) (v151 : BitVec 32) (v152 : BitVec 1) (v153 : BitVec 1) (v162 : BitVec 32) (v163 : BitVec 1) (v164 : BitVec 1) (v173 : BitVec 32) (v174 : BitVec 1) (v175 : BitVec 1) (v184 : BitVec 32) (v185 : BitVec 1) (v186 : BitVec 1) (v195 : BitVec 32) (v196 : BitVec 1) (v197 : BitVec 1) (v206 : BitVec 32) (v207 : BitVec 1) (v208 : BitVec 1) (v217 : BitVec 32) (v218 : BitVec 1) (v219 : BitVec 1) (v228 : BitVec 32) (v229 : BitVec 1) (v230 : BitVec 1) (k0_hw1 : k0_chk1 v70 v74 v75 v76 v85 v86 v87 v96 v97 v98 v107 v108 v109 v118 v119 v120 v129 v130 v131 v140 v141 v142 v151 v152 v153 v162 v163 v164 v173 v174 v175 v184 v185 v186 v195 v196 v197 v206 v207 v208 v217 v218 v219 v228 v229 v230), ∀ a, (k0_off7 v70 v74 v75 v76 v85 v86 v87 v96 v97 v98 v107 v108 v109 v118 v119 v120 v129 v130 v131 v140 v141 v142 v151 v152 v153 v162 v163 v164 v173 v174 v175 v184 v185 v186 v195 v196 v197 v206 v207 v208 v217 v218 v219 v228 v229 v230) a + S64.size a ≤ S6400000.size a := fun v70 v74 v75 v76 v85 v86 v87 v96 v97 v98 v107 v108 v109 v118 v119 v120 v129 v130 v131 v140 v141 v142 v151 v152 v153 v162 v163 v164 v173 v174 v175 v184 v185 v186 v195 v196 v197 v206 v207 v208 v217 v218 v219 v228 v229 v230 k0_hw1 => k0_hw1.2

def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_37 : BitVec 32 := 2#32
  let v236 : BitVec 32 := Scalar.muli v1 c2_i32_37
  let c0_i32_38 : BitVec 32 := 0#32
  let v237 : BitVec 32 := Scalar.addi v236 c0_i32_38
  let c64_i32_39 : BitVec 32 := 64#32
  let v240 : BitVec 32 := Scalar.muli v237 c64_i32_39
  v240
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_37 : BitVec 32 := 2#32
  let v236 : BitVec 32 := Scalar.muli v1 c2_i32_37
  let c0_i32_38 : BitVec 32 := 0#32
  let v237 : BitVec 32 := Scalar.addi v236 c0_i32_38
  let c64_i32_39 : BitVec 32 := 64#32
  let v240 : BitVec 32 := Scalar.muli v237 c64_i32_39
  let v241 : BitVec 32 := v240
  ![v241.toNat]
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_40 : BitVec 32 := 2#32
  let v242 : BitVec 32 := Scalar.muli v1 c2_i32_40
  let c1_i32_41 : BitVec 32 := 1#32
  let v243 : BitVec 32 := Scalar.addi v242 c1_i32_41
  let c100000_i32_42 : BitVec 32 := 100000#32
  let v244 : BitVec 32 := Scalar.muli v243 c100000_i32_42
  let c20000_i32_43 : BitVec 32 := 20000#32
  let v245 : BitVec 32 := Scalar.addi v244 c20000_i32_43
  v245
def k0_off9 (i : grid0.Coords) (c20000_i32_43 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_40 : BitVec 32 := 2#32
  let v242 : BitVec 32 := Scalar.muli v1 c2_i32_40
  let c1_i32_41 : BitVec 32 := 1#32
  let v243 : BitVec 32 := Scalar.addi v242 c1_i32_41
  let c100000_i32_42 : BitVec 32 := 100000#32
  let v244 : BitVec 32 := Scalar.muli v243 c100000_i32_42
  let v245 : BitVec 32 := Scalar.addi v244 c20000_i32_43
  let v246 : BitVec 32 := v245
  ![v246.toNat]
@[reducible] def k0_t6_loop : Scf.Loop 32 :=
  let c0_i32_46 : BitVec 32 := 0#32
  let c1250_i32_47 : BitVec 32 := 1250#32
  let v253 : BitVec 32 := Scalar.addi c0_i32_46 c1250_i32_47
  let c1_i32_48 : BitVec 32 := 1#32
  ⟨c0_i32_46, v253, c1_i32_48⟩
def k0_off10 (k0_t6 : Fin k0_t6_loop.trips) : Fin 1 → Nat :=
  let c0_i32_46 : BitVec 32 := 0#32
  let c1_i32_48 : BitVec 32 := 1#32
  let arg10 : BitVec 32 := Scf.iv c0_i32_46 c1_i32_48 k0_t6
  let c16_i32 : BitVec 32 := 16#32
  let v467 : BitVec 32 := Scalar.muli arg10 c16_i32
  let v468 : Index := Scalar.indexCast v467
  ![v468.toNat]
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_50 : BitVec 32 := 2#32
  let v255 : BitVec 32 := Scalar.muli v1 c2_i32_50
  let c1_i32_51 : BitVec 32 := 1#32
  let v256 : BitVec 32 := Scalar.addi v255 c1_i32_51
  let c100000_i32_52 : BitVec 32 := 100000#32
  let v257 : BitVec 32 := Scalar.muli v256 c100000_i32_52
  let c40000_i32_53 : BitVec 32 := 40000#32
  let v258 : BitVec 32 := Scalar.addi v257 c40000_i32_53
  v258
@[reducible] def k0_t7_loop : Scf.Loop 32 :=
  let c0_i32_54 : BitVec 32 := 0#32
  let c1250_i32_55 : BitVec 32 := 1250#32
  let v264 : BitVec 32 := Scalar.addi c0_i32_54 c1250_i32_55
  let c1_i32_56 : BitVec 32 := 1#32
  ⟨c0_i32_54, v264, c1_i32_56⟩
def k0_off11 (k0_t7 : Fin k0_t7_loop.trips) : Fin 1 → Nat :=
  let c0_i32_54 : BitVec 32 := 0#32
  let c1_i32_56 : BitVec 32 := 1#32
  let arg10 : BitVec 32 := Scf.iv c0_i32_54 c1_i32_56 k0_t7
  let c16_i32 : BitVec 32 := 16#32
  let v467 : BitVec 32 := Scalar.muli arg10 c16_i32
  let v468 : Index := Scalar.indexCast v467
  ![v468.toNat]
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_58 : BitVec 32 := 2#32
  let v266 : BitVec 32 := Scalar.muli v1 c2_i32_58
  let c1_i32_59 : BitVec 32 := 1#32
  let v267 : BitVec 32 := Scalar.addi v266 c1_i32_59
  let c100000_i32_60 : BitVec 32 := 100000#32
  let v268 : BitVec 32 := Scalar.muli v267 c100000_i32_60
  let c60000_i32_61 : BitVec 32 := 60000#32
  let v269 : BitVec 32 := Scalar.addi v268 c60000_i32_61
  v269
@[reducible] def k0_t8_loop : Scf.Loop 32 :=
  let c0_i32_62 : BitVec 32 := 0#32
  let c1250_i32_63 : BitVec 32 := 1250#32
  let v275 : BitVec 32 := Scalar.addi c0_i32_62 c1250_i32_63
  let c1_i32_64 : BitVec 32 := 1#32
  ⟨c0_i32_62, v275, c1_i32_64⟩
def k0_off12 (k0_t8 : Fin k0_t8_loop.trips) : Fin 1 → Nat :=
  let c0_i32_62 : BitVec 32 := 0#32
  let c1_i32_64 : BitVec 32 := 1#32
  let arg10 : BitVec 32 := Scf.iv c0_i32_62 c1_i32_64 k0_t8
  let c16_i32 : BitVec 32 := 16#32
  let v467 : BitVec 32 := Scalar.muli arg10 c16_i32
  let v468 : Index := Scalar.indexCast v467
  ![v468.toNat]
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_66 : BitVec 32 := 2#32
  let v277 : BitVec 32 := Scalar.muli v1 c2_i32_66
  let c1_i32_67 : BitVec 32 := 1#32
  let v278 : BitVec 32 := Scalar.addi v277 c1_i32_67
  let c100000_i32_68 : BitVec 32 := 100000#32
  let v279 : BitVec 32 := Scalar.muli v278 c100000_i32_68
  let c80000_i32_69 : BitVec 32 := 80000#32
  let v280 : BitVec 32 := Scalar.addi v279 c80000_i32_69
  v280
@[reducible] def k0_t9_loop : Scf.Loop 32 :=
  let c0_i32_70 : BitVec 32 := 0#32
  let c1250_i32_71 : BitVec 32 := 1250#32
  let v286 : BitVec 32 := Scalar.addi c0_i32_70 c1250_i32_71
  let c1_i32_72 : BitVec 32 := 1#32
  ⟨c0_i32_70, v286, c1_i32_72⟩
def k0_off13 (k0_t9 : Fin k0_t9_loop.trips) : Fin 1 → Nat :=
  let c0_i32_70 : BitVec 32 := 0#32
  let c1_i32_72 : BitVec 32 := 1#32
  let arg10 : BitVec 32 := Scf.iv c0_i32_70 c1_i32_72 k0_t9
  let c16_i32 : BitVec 32 := 16#32
  let v467 : BitVec 32 := Scalar.muli arg10 c16_i32
  let v468 : Index := Scalar.indexCast v467
  ![v468.toNat]
@[reducible] def k0_t10_loop : Scf.Loop 32 :=
  let c0_i32_74 : BitVec 32 := 0#32
  let c1250_i32_75 : BitVec 32 := 1250#32
  let v290 : BitVec 32 := Scalar.addi c0_i32_74 c1250_i32_75
  let c1_i32_76 : BitVec 32 := 1#32
  ⟨c0_i32_74, v290, c1_i32_76⟩
def k0_off14 (k0_t10 : Fin k0_t10_loop.trips) : Fin 1 → Nat :=
  let c0_i32_74 : BitVec 32 := 0#32
  let c1_i32_76 : BitVec 32 := 1#32
  let arg10 : BitVec 32 := Scf.iv c0_i32_74 c1_i32_76 k0_t10
  let c16_i32 : BitVec 32 := 16#32
  let v467 : BitVec 32 := Scalar.muli arg10 c16_i32
  let v468 : Index := Scalar.indexCast v467
  ![v468.toNat]
def k0_mult13 (v295 : BitVec 32) (v299 : BitVec 32) (v300 : BitVec 1) (v301 : BitVec 1) (v310 : BitVec 32) (v311 : BitVec 1) (v312 : BitVec 1) (v321 : BitVec 32) (v322 : BitVec 1) (v323 : BitVec 1) (v332 : BitVec 32) (v333 : BitVec 1) (v334 : BitVec 1) (v343 : BitVec 32) (v344 : BitVec 1) (v345 : BitVec 1) (v354 : BitVec 32) (v355 : BitVec 1) (v356 : BitVec 1) (v365 : BitVec 32) (v366 : BitVec 1) (v367 : BitVec 1) (v376 : BitVec 32) (v377 : BitVec 1) (v378 : BitVec 1) (v387 : BitVec 32) (v388 : BitVec 1) (v389 : BitVec 1) (v398 : BitVec 32) (v399 : BitVec 1) (v400 : BitVec 1) (v409 : BitVec 32) (v410 : BitVec 1) (v411 : BitVec 1) (v420 : BitVec 32) (v421 : BitVec 1) (v422 : BitVec 1) (v431 : BitVec 32) (v432 : BitVec 1) (v433 : BitVec 1) (v442 : BitVec 32) (v443 : BitVec 1) (v444 : BitVec 1) (v453 : BitVec 32) (v454 : BitVec 1) (v455 : BitVec 1) : BitVec 32 :=
  let v302 : BitVec 1 := Scalar.cmpi .slt v299 v295
  let v303 : BitVec 1 := Scalar.andi v301 v302
  let v304 : BitVec 1 := Scalar.ori v300 v303
  let v306 : BitVec 32 := Scalar.select v304 v299 v295
  let v313 : BitVec 1 := Scalar.cmpi .slt v310 v306
  let v314 : BitVec 1 := Scalar.andi v312 v313
  let v315 : BitVec 1 := Scalar.ori v311 v314
  let v317 : BitVec 32 := Scalar.select v315 v310 v306
  let v324 : BitVec 1 := Scalar.cmpi .slt v321 v317
  let v325 : BitVec 1 := Scalar.andi v323 v324
  let v326 : BitVec 1 := Scalar.ori v322 v325
  let v328 : BitVec 32 := Scalar.select v326 v321 v317
  let v335 : BitVec 1 := Scalar.cmpi .slt v332 v328
  let v336 : BitVec 1 := Scalar.andi v334 v335
  let v337 : BitVec 1 := Scalar.ori v333 v336
  let v339 : BitVec 32 := Scalar.select v337 v332 v328
  let v346 : BitVec 1 := Scalar.cmpi .slt v343 v339
  let v347 : BitVec 1 := Scalar.andi v345 v346
  let v348 : BitVec 1 := Scalar.ori v344 v347
  let v350 : BitVec 32 := Scalar.select v348 v343 v339
  let v357 : BitVec 1 := Scalar.cmpi .slt v354 v350
  let v358 : BitVec 1 := Scalar.andi v356 v357
  let v359 : BitVec 1 := Scalar.ori v355 v358
  let v361 : BitVec 32 := Scalar.select v359 v354 v350
  let v368 : BitVec 1 := Scalar.cmpi .slt v365 v361
  let v369 : BitVec 1 := Scalar.andi v367 v368
  let v370 : BitVec 1 := Scalar.ori v366 v369
  let v372 : BitVec 32 := Scalar.select v370 v365 v361
  let v379 : BitVec 1 := Scalar.cmpi .slt v376 v372
  let v380 : BitVec 1 := Scalar.andi v378 v379
  let v381 : BitVec 1 := Scalar.ori v377 v380
  let v383 : BitVec 32 := Scalar.select v381 v376 v372
  let v390 : BitVec 1 := Scalar.cmpi .slt v387 v383
  let v391 : BitVec 1 := Scalar.andi v389 v390
  let v392 : BitVec 1 := Scalar.ori v388 v391
  let v394 : BitVec 32 := Scalar.select v392 v387 v383
  let v401 : BitVec 1 := Scalar.cmpi .slt v398 v394
  let v402 : BitVec 1 := Scalar.andi v400 v401
  let v403 : BitVec 1 := Scalar.ori v399 v402
  let v405 : BitVec 32 := Scalar.select v403 v398 v394
  let v412 : BitVec 1 := Scalar.cmpi .slt v409 v405
  let v413 : BitVec 1 := Scalar.andi v411 v412
  let v414 : BitVec 1 := Scalar.ori v410 v413
  let v416 : BitVec 32 := Scalar.select v414 v409 v405
  let v423 : BitVec 1 := Scalar.cmpi .slt v420 v416
  let v424 : BitVec 1 := Scalar.andi v422 v423
  let v425 : BitVec 1 := Scalar.ori v421 v424
  let v427 : BitVec 32 := Scalar.select v425 v420 v416
  let v434 : BitVec 1 := Scalar.cmpi .slt v431 v427
  let v435 : BitVec 1 := Scalar.andi v433 v434
  let v436 : BitVec 1 := Scalar.ori v432 v435
  let v438 : BitVec 32 := Scalar.select v436 v431 v427
  let v445 : BitVec 1 := Scalar.cmpi .slt v442 v438
  let v446 : BitVec 1 := Scalar.andi v444 v445
  let v447 : BitVec 1 := Scalar.ori v443 v446
  let v449 : BitVec 32 := Scalar.select v447 v442 v438
  let v456 : BitVec 1 := Scalar.cmpi .slt v453 v449
  let v457 : BitVec 1 := Scalar.andi v455 v456
  let v458 : BitVec 1 := Scalar.ori v454 v457
  let v460 : BitVec 32 := Scalar.select v458 v453 v449
  let c64_i32_80 : BitVec 32 := 64#32
  let v463 : BitVec 32 := Scalar.muli v460 c64_i32_80
  v463

def k0_off15 (v295 : BitVec 32) (v299 : BitVec 32) (v300 : BitVec 1) (v301 : BitVec 1) (v310 : BitVec 32) (v311 : BitVec 1) (v312 : BitVec 1) (v321 : BitVec 32) (v322 : BitVec 1) (v323 : BitVec 1) (v332 : BitVec 32) (v333 : BitVec 1) (v334 : BitVec 1) (v343 : BitVec 32) (v344 : BitVec 1) (v345 : BitVec 1) (v354 : BitVec 32) (v355 : BitVec 1) (v356 : BitVec 1) (v365 : BitVec 32) (v366 : BitVec 1) (v367 : BitVec 1) (v376 : BitVec 32) (v377 : BitVec 1) (v378 : BitVec 1) (v387 : BitVec 32) (v388 : BitVec 1) (v389 : BitVec 1) (v398 : BitVec 32) (v399 : BitVec 1) (v400 : BitVec 1) (v409 : BitVec 32) (v410 : BitVec 1) (v411 : BitVec 1) (v420 : BitVec 32) (v421 : BitVec 1) (v422 : BitVec 1) (v431 : BitVec 32) (v432 : BitVec 1) (v433 : BitVec 1) (v442 : BitVec 32) (v443 : BitVec 1) (v444 : BitVec 1) (v453 : BitVec 32) (v454 : BitVec 1) (v455 : BitVec 1) : Fin 1 → Nat :=
  let v302 : BitVec 1 := Scalar.cmpi .slt v299 v295
  let v303 : BitVec 1 := Scalar.andi v301 v302
  let v304 : BitVec 1 := Scalar.ori v300 v303
  let v306 : BitVec 32 := Scalar.select v304 v299 v295
  let v313 : BitVec 1 := Scalar.cmpi .slt v310 v306
  let v314 : BitVec 1 := Scalar.andi v312 v313
  let v315 : BitVec 1 := Scalar.ori v311 v314
  let v317 : BitVec 32 := Scalar.select v315 v310 v306
  let v324 : BitVec 1 := Scalar.cmpi .slt v321 v317
  let v325 : BitVec 1 := Scalar.andi v323 v324
  let v326 : BitVec 1 := Scalar.ori v322 v325
  let v328 : BitVec 32 := Scalar.select v326 v321 v317
  let v335 : BitVec 1 := Scalar.cmpi .slt v332 v328
  let v336 : BitVec 1 := Scalar.andi v334 v335
  let v337 : BitVec 1 := Scalar.ori v333 v336
  let v339 : BitVec 32 := Scalar.select v337 v332 v328
  let v346 : BitVec 1 := Scalar.cmpi .slt v343 v339
  let v347 : BitVec 1 := Scalar.andi v345 v346
  let v348 : BitVec 1 := Scalar.ori v344 v347
  let v350 : BitVec 32 := Scalar.select v348 v343 v339
  let v357 : BitVec 1 := Scalar.cmpi .slt v354 v350
  let v358 : BitVec 1 := Scalar.andi v356 v357
  let v359 : BitVec 1 := Scalar.ori v355 v358
  let v361 : BitVec 32 := Scalar.select v359 v354 v350
  let v368 : BitVec 1 := Scalar.cmpi .slt v365 v361
  let v369 : BitVec 1 := Scalar.andi v367 v368
  let v370 : BitVec 1 := Scalar.ori v366 v369
  let v372 : BitVec 32 := Scalar.select v370 v365 v361
  let v379 : BitVec 1 := Scalar.cmpi .slt v376 v372
  let v380 : BitVec 1 := Scalar.andi v378 v379
  let v381 : BitVec 1 := Scalar.ori v377 v380
  let v383 : BitVec 32 := Scalar.select v381 v376 v372
  let v390 : BitVec 1 := Scalar.cmpi .slt v387 v383
  let v391 : BitVec 1 := Scalar.andi v389 v390
  let v392 : BitVec 1 := Scalar.ori v388 v391
  let v394 : BitVec 32 := Scalar.select v392 v387 v383
  let v401 : BitVec 1 := Scalar.cmpi .slt v398 v394
  let v402 : BitVec 1 := Scalar.andi v400 v401
  let v403 : BitVec 1 := Scalar.ori v399 v402
  let v405 : BitVec 32 := Scalar.select v403 v398 v394
  let v412 : BitVec 1 := Scalar.cmpi .slt v409 v405
  let v413 : BitVec 1 := Scalar.andi v411 v412
  let v414 : BitVec 1 := Scalar.ori v410 v413
  let v416 : BitVec 32 := Scalar.select v414 v409 v405
  let v423 : BitVec 1 := Scalar.cmpi .slt v420 v416
  let v424 : BitVec 1 := Scalar.andi v422 v423
  let v425 : BitVec 1 := Scalar.ori v421 v424
  let v427 : BitVec 32 := Scalar.select v425 v420 v416
  let v434 : BitVec 1 := Scalar.cmpi .slt v431 v427
  let v435 : BitVec 1 := Scalar.andi v433 v434
  let v436 : BitVec 1 := Scalar.ori v432 v435
  let v438 : BitVec 32 := Scalar.select v436 v431 v427
  let v445 : BitVec 1 := Scalar.cmpi .slt v442 v438
  let v446 : BitVec 1 := Scalar.andi v444 v445
  let v447 : BitVec 1 := Scalar.ori v443 v446
  let v449 : BitVec 32 := Scalar.select v447 v442 v438
  let v456 : BitVec 1 := Scalar.cmpi .slt v453 v449
  let v457 : BitVec 1 := Scalar.andi v455 v456
  let v458 : BitVec 1 := Scalar.ori v454 v457
  let v460 : BitVec 32 := Scalar.select v458 v453 v449
  let c64_i32_80 : BitVec 32 := 64#32
  let v463 : BitVec 32 := Scalar.muli v460 c64_i32_80
  let v464 : BitVec 32 := v463
  ![v464.toNat]

def k0_chk2 (v295 : BitVec 32) (v299 : BitVec 32) (v300 : BitVec 1) (v301 : BitVec 1) (v310 : BitVec 32) (v311 : BitVec 1) (v312 : BitVec 1) (v321 : BitVec 32) (v322 : BitVec 1) (v323 : BitVec 1) (v332 : BitVec 32) (v333 : BitVec 1) (v334 : BitVec 1) (v343 : BitVec 32) (v344 : BitVec 1) (v345 : BitVec 1) (v354 : BitVec 32) (v355 : BitVec 1) (v356 : BitVec 1) (v365 : BitVec 32) (v366 : BitVec 1) (v367 : BitVec 1) (v376 : BitVec 32) (v377 : BitVec 1) (v378 : BitVec 1) (v387 : BitVec 32) (v388 : BitVec 1) (v389 : BitVec 1) (v398 : BitVec 32) (v399 : BitVec 1) (v400 : BitVec 1) (v409 : BitVec 32) (v410 : BitVec 1) (v411 : BitVec 1) (v420 : BitVec 32) (v421 : BitVec 1) (v422 : BitVec 1) (v431 : BitVec 32) (v432 : BitVec 1) (v433 : BitVec 1) (v442 : BitVec 32) (v443 : BitVec 1) (v444 : BitVec 1) (v453 : BitVec 32) (v454 : BitVec 1) (v455 : BitVec 1) : Prop :=
  (8 ∣ (k0_mult13 v295 v299 v300 v301 v310 v311 v312 v321 v322 v323 v332 v333 v334 v343 v344 v345 v354 v355 v356 v365 v366 v367 v376 v377 v378 v387 v388 v389 v398 v399 v400 v409 v410 v411 v420 v421 v422 v431 v432 v433 v442 v443 v444 v453 v454 v455).toNat) ∧
  (∀ a, (k0_off15 v295 v299 v300 v301 v310 v311 v312 v321 v322 v323 v332 v333 v334 v343 v344 v345 v354 v355 v356 v365 v366 v367 v376 v377 v378 v387 v388 v389 v398 v399 v400 v409 v410 v411 v420 v421 v422 v431 v432 v433 v442 v443 v444 v453 v454 v455) a + S64.size a ≤ S6400000.size a)
theorem k0_mult13_dvd : ∀ (v295 : BitVec 32) (v299 : BitVec 32) (v300 : BitVec 1) (v301 : BitVec 1) (v310 : BitVec 32) (v311 : BitVec 1) (v312 : BitVec 1) (v321 : BitVec 32) (v322 : BitVec 1) (v323 : BitVec 1) (v332 : BitVec 32) (v333 : BitVec 1) (v334 : BitVec 1) (v343 : BitVec 32) (v344 : BitVec 1) (v345 : BitVec 1) (v354 : BitVec 32) (v355 : BitVec 1) (v356 : BitVec 1) (v365 : BitVec 32) (v366 : BitVec 1) (v367 : BitVec 1) (v376 : BitVec 32) (v377 : BitVec 1) (v378 : BitVec 1) (v387 : BitVec 32) (v388 : BitVec 1) (v389 : BitVec 1) (v398 : BitVec 32) (v399 : BitVec 1) (v400 : BitVec 1) (v409 : BitVec 32) (v410 : BitVec 1) (v411 : BitVec 1) (v420 : BitVec 32) (v421 : BitVec 1) (v422 : BitVec 1) (v431 : BitVec 32) (v432 : BitVec 1) (v433 : BitVec 1) (v442 : BitVec 32) (v443 : BitVec 1) (v444 : BitVec 1) (v453 : BitVec 32) (v454 : BitVec 1) (v455 : BitVec 1) (k0_hw2 : k0_chk2 v295 v299 v300 v301 v310 v311 v312 v321 v322 v323 v332 v333 v334 v343 v344 v345 v354 v355 v356 v365 v366 v367 v376 v377 v378 v387 v388 v389 v398 v399 v400 v409 v410 v411 v420 v421 v422 v431 v432 v433 v442 v443 v444 v453 v454 v455), 8 ∣ (k0_mult13 v295 v299 v300 v301 v310 v311 v312 v321 v322 v323 v332 v333 v334 v343 v344 v345 v354 v355 v356 v365 v366 v367 v376 v377 v378 v387 v388 v389 v398 v399 v400 v409 v410 v411 v420 v421 v422 v431 v432 v433 v442 v443 v444 v453 v454 v455).toNat := fun v295 v299 v300 v301 v310 v311 v312 v321 v322 v323 v332 v333 v334 v343 v344 v345 v354 v355 v356 v365 v366 v367 v376 v377 v378 v387 v388 v389 v398 v399 v400 v409 v410 v411 v420 v421 v422 v431 v432 v433 v442 v443 v444 v453 v454 v455 k0_hw2 => k0_hw2.1
theorem k0_off15_inb : ∀ (v295 : BitVec 32) (v299 : BitVec 32) (v300 : BitVec 1) (v301 : BitVec 1) (v310 : BitVec 32) (v311 : BitVec 1) (v312 : BitVec 1) (v321 : BitVec 32) (v322 : BitVec 1) (v323 : BitVec 1) (v332 : BitVec 32) (v333 : BitVec 1) (v334 : BitVec 1) (v343 : BitVec 32) (v344 : BitVec 1) (v345 : BitVec 1) (v354 : BitVec 32) (v355 : BitVec 1) (v356 : BitVec 1) (v365 : BitVec 32) (v366 : BitVec 1) (v367 : BitVec 1) (v376 : BitVec 32) (v377 : BitVec 1) (v378 : BitVec 1) (v387 : BitVec 32) (v388 : BitVec 1) (v389 : BitVec 1) (v398 : BitVec 32) (v399 : BitVec 1) (v400 : BitVec 1) (v409 : BitVec 32) (v410 : BitVec 1) (v411 : BitVec 1) (v420 : BitVec 32) (v421 : BitVec 1) (v422 : BitVec 1) (v431 : BitVec 32) (v432 : BitVec 1) (v433 : BitVec 1) (v442 : BitVec 32) (v443 : BitVec 1) (v444 : BitVec 1) (v453 : BitVec 32) (v454 : BitVec 1) (v455 : BitVec 1) (k0_hw2 : k0_chk2 v295 v299 v300 v301 v310 v311 v312 v321 v322 v323 v332 v333 v334 v343 v344 v345 v354 v355 v356 v365 v366 v367 v376 v377 v378 v387 v388 v389 v398 v399 v400 v409 v410 v411 v420 v421 v422 v431 v432 v433 v442 v443 v444 v453 v454 v455), ∀ a, (k0_off15 v295 v299 v300 v301 v310 v311 v312 v321 v322 v323 v332 v333 v334 v343 v344 v345 v354 v355 v356 v365 v366 v367 v376 v377 v378 v387 v388 v389 v398 v399 v400 v409 v410 v411 v420 v421 v422 v431 v432 v433 v442 v443 v444 v453 v454 v455) a + S64.size a ≤ S6400000.size a := fun v295 v299 v300 v301 v310 v311 v312 v321 v322 v323 v332 v333 v334 v343 v344 v345 v354 v355 v356 v365 v366 v367 v376 v377 v378 v387 v388 v389 v398 v399 v400 v409 v410 v411 v420 v421 v422 v431 v432 v433 v442 v443 v444 v453 v454 v455 k0_hw2 => k0_hw2.2

def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_78 : BitVec 32 := 2#32
  let v461 : BitVec 32 := Scalar.muli v1 c2_i32_78
  let c1_i32_79 : BitVec 32 := 1#32
  let v462 : BitVec 32 := Scalar.addi v461 c1_i32_79
  let c64_i32_81 : BitVec 32 := 64#32
  let v465 : BitVec 32 := Scalar.muli v462 c64_i32_81
  v465
def k0_off16 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_78 : BitVec 32 := 2#32
  let v461 : BitVec 32 := Scalar.muli v1 c2_i32_78
  let c1_i32_79 : BitVec 32 := 1#32
  let v462 : BitVec 32 := Scalar.addi v461 c1_i32_79
  let c64_i32_81 : BitVec 32 := 64#32
  let v465 : BitVec 32 := Scalar.muli v462 c64_i32_81
  let v466 : BitVec 32 := v465
  ![v466.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x64 : Shape := ⟨2, ![100000, 64]⟩
abbrev S64x100000x1 : Shape := ⟨3, ![64, 100000, 1]⟩
abbrev S_ : Shape := ⟨0, ![]⟩
abbrev S64x100000 : Shape := ⟨2, ![64, 100000]⟩
abbrev S64 : Shape := ⟨1, ![64]⟩
abbrev S64x1 : Shape := ⟨2, ![64, 1]⟩
abbrev S1 : Shape := ⟨1, ![1]⟩
abbrev S1x1 : Shape := ⟨2, ![1, 1]⟩
abbrev S64x64 : Shape := ⟨2, ![64, 64]⟩

abbrev nBuf : Space → Nat
  | .hbm => 32
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x100000x1, .f32⟩
  | .hbm, ⟨2, _⟩ => ⟨S_, .i32⟩
  | .hbm, ⟨3, _⟩ => ⟨S64x100000, .f32⟩
  | .hbm, ⟨4, _⟩ => ⟨S64x100000, .i32⟩
  | .hbm, ⟨5, _⟩ => ⟨S_, .f32⟩
  | .hbm, ⟨6, _⟩ => ⟨S_, .i32⟩
  | .hbm, ⟨7, _⟩ => ⟨S64, .f32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S1, .i32⟩
  | .hbm, ⟨18, _⟩ => ⟨S_, .i32⟩
  | .hbm, ⟨19, _⟩ => ⟨S64x1, .i32⟩
  | .hbm, ⟨20, _⟩ => ⟨S64x1, .i1⟩
  | .hbm, ⟨21, _⟩ => ⟨S1x1, .i32⟩
  | .hbm, ⟨22, _⟩ => ⟨S64x1, .i32⟩
  | .hbm, ⟨23, _⟩ => ⟨S64x1, .i1⟩
  | .hbm, ⟨24, _⟩ => ⟨S64x1, .i1⟩
  | .hbm, ⟨25, _⟩ => ⟨S_, .i1⟩
  | .hbm, ⟨26, _⟩ => ⟨S64, .i1⟩
  | .hbm, ⟨27, _⟩ => ⟨S64x64, .f32⟩
  | .hbm, ⟨28, _⟩ => ⟨S64x64, .i1⟩
  | .hbm, ⟨29, _⟩ => ⟨S_, .f32⟩
  | .hbm, ⟨30, _⟩ => ⟨S64x64, .f32⟩
  | .hbm, ⟨31, _⟩ => ⟨S64x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_call1_cst : Ref sig .tc := ⟨.hbm, 29, rfl⟩
abbrev main_call1_v15 : Ref sig .tc := ⟨.hbm, 30, rfl⟩
abbrev main_v2 : Ref sig .tc := ⟨.hbm, 31, rfl⟩

abbrev nD : Nat := 1
abbrev τ : Topo := Topo.v7x

variable {F : FTy → Type} [FloatOps F]
-- ==== Proof.Lanes.lean ====
/-
  What one tile of the kernel computes for one row of scores, written as plain functions over an arbitrary float instance.

  A row is read sixteen entries at a time. Lane `l` of the sixteen keeps the largest entry it has met and that entry's
  number (`scan`); at the row's end the sixteen lanes are combined one after another (`pick`), the smaller number being
  taken where two lanes hold equal entries; the number left is the row's answer (`best`).
-/
module

public import Idealize.ShloMosaic.PureOps
public import Idealize.ShloMosaic.Lib.Scf

@[expose] public section

noncomputable section

namespace Cert.Lanes

open Idealize.ShloMosaic

variable {F : FTy → Type} [FloatOps F]

/-- A lane that holds `p` meets the entry `v`, which has number `i`: it takes it if it is strictly greater. -/
def keep (v : F .f32) (i : BitVec 32) (p : F .f32 × BitVec 32) : F .f32 × BitVec 32 :=
  (Scalar.select (FloatOps.cmpf .ogt v p.1) v p.1, Scalar.select (FloatOps.cmpf .ogt v p.1) i p.2)

/-- What lane `l` holds after `n` groups of sixteen entries of the row `r`. It starts with −∞ and the number 0. -/
def scan (r : ℕ → F .f32) (l : ℕ) : ℕ → F .f32 × BitVec 32
  | 0 => (Scalar.ofBits .f32 0xFF800000#32, 0#32)
  | n + 1 => keep (r (16 * n + l)) (BitVec.ofNat 32 (16 * n + l)) (scan r l n)

/-- Whether a lane holding `v` and `i` goes before what the lanes below it left, `p`. -/
def before (v : F .f32) (i : BitVec 32) (p : F .f32 × BitVec 32) : BitVec 1 :=
  Scalar.ori (Scalar.cmpf .ogt v p.1) (Scalar.andi (Scalar.cmpf .oeq v p.1) (Scalar.cmpi .slt i p.2))

/-- The lanes `0 … j`, holding the entries `M` with the numbers `B`, combined. -/
def pick (M : ℕ → F .f32) (B : ℕ → BitVec 32) : ℕ → F .f32 × BitVec 32
  | 0 => (M 0, B 0)
  | j + 1 => (Scalar.select (before (M (j + 1)) (B (j + 1)) (pick M B j)) (M (j + 1)) (pick M B j).1,
      Scalar.select (before (M (j + 1)) (B (j + 1)) (pick M B j)) (B (j + 1)) (pick M B j).2)

/-- The kernel's answer for a row of 100000 entries: all 6250 groups scanned, the sixteen lanes combined. -/
def best (r : ℕ → F .f32) : BitVec 32 :=
  (pick (fun l => (scan r l 6250).1) (fun l => (scan r l 6250).2) 15).2

/-- A choice between two values that both satisfy `P` satisfies `P`. -/
theorem select_ind {α : Type} {P : α → Prop} (c : BitVec 1) {a b : α} (ha : P a) (hb : P b) : P (Scalar.select c a b) := by
  unfold Scalar.select; split <;> assumption

/-- A lane only ever holds the number of an entry it has met, or 0. -/
theorem scan_num_lt (r : ℕ → F .f32) {l : ℕ} (hl : l < 16) : ∀ n, n ≤ 6250 → (scan r l n).2.toNat < 100000
  | 0, _ => by simp [scan]
  | n + 1, h => by
    refine select_ind (P := fun b : BitVec 32 => b.toNat < 100000) _ ?_ (scan_num_lt r hl n (by omega))
    rw [BitVec.toNat_ofNat, Nat.mod_eq_of_lt (by omega)]; omega

/-- Combining lanes whose numbers are all below a bound leaves a number below it. -/
theorem pick_num_lt {M : ℕ → F .f32} {B : ℕ → BitVec 32} {k : ℕ} (hB : ∀ l, l < 16 → (B l).toNat < k) :
    ∀ j, j < 16 → (pick M B j).2.toNat < k
  | 0, h => hB 0 h
  | j + 1, h => select_ind (P := fun b : BitVec 32 => b.toNat < k) _ (hB _ h) (pick_num_lt hB j (by omega))

/-- The answer is the number of an entry of the row. -/
theorem best_lt (r : ℕ → F .f32) : (best r).toNat < 100000 :=
  pick_num_lt (fun _ hl => scan_num_lt r hl 6250 le_rfl) 15 (by decide)

/-- The scan reads only the entries below 16 n, so two rows that agree on those are scanned alike. -/
theorem scan_congr {r r' : ℕ → F .f32} {l : ℕ} (hl : l < 16) :
    ∀ n, (∀ k, k < 16 * n → r k = r' k) → scan r l n = scan r' l n
  | 0, _ => rfl
  | n + 1, h => by
    rw [scan, scan, h (16 * n + l) (by omega), scan_congr hl n fun k hk => h k (by omega)]

/-- Combining lanes reads only the lanes combined. -/
theorem pick_congr {M M' : ℕ → F .f32} {B B' : ℕ → BitVec 32} :
    ∀ j, (∀ l, l ≤ j → M l = M' l ∧ B l = B' l) → pick M B j = pick M' B' j
  | 0, h => by rw [pick, pick, (h 0 le_rfl).1, (h 0 le_rfl).2]
  | j + 1, h => by
    rw [pick, pick, (h (j + 1) le_rfl).1, (h (j + 1) le_rfl).2, pick_congr j fun l hl => h l (by omega)]

/-- The sixteen-lane vector whose lane `l` is `f l`. -/
abbrev vec {α : Type} (f : ℕ → α) : (⟨1, ![16]⟩ : Shape).Idx → α := fun j => f (j 0).val

/-- The lanes' entries after `n` groups of row `r`. -/
abbrev top (r : ℕ → F .f32) (n : ℕ) : FVec F ⟨1, ![16]⟩ .f32 := vec fun l => (scan r l n).1
/-- The numbers of the lanes' entries after `n` groups of row `r`. -/
abbrev num (r : ℕ → F .f32) (n : ℕ) : IVec ⟨1, ![16]⟩ 32 := vec fun l => (scan r l n).2

/-- The word arithmetic by which trip `k` of the loop over the piece that starts at entry `b` numbers its lane `l`. -/
theorem number_eq (b k l : ℕ) :
    IntOp.addi (BitVec.ofNat 32 l) (Scalar.addi (BitVec.ofNat 32 b) (Scalar.muli (Scf.iv 0#32 1#32 k) 16#32))
      = BitVec.ofNat 32 (b + 16 * k + l) := by
  apply BitVec.eq_of_toNat_eq
  simp [IntOp.addi, Scalar.addi, Scalar.muli, IntOp.muli, Scf.iv, BitVec.toNat_add, BitVec.toNat_mul]
  omega

/-- Before the first group every lane holds −∞ and the number 0. -/
theorem start_eq (r : ℕ → F .f32) :
    broadcast ⟨1, ![16]⟩ (Scalar.ofBits .f32 0xFF800000#32 : F .f32) = top r 0 ∧ broadcast ⟨1, ![16]⟩ 0#32 = num r 0 :=
  ⟨rfl, rfl⟩

/-- One trip of a loop over a piece of the row. The lanes hold what `n` groups left; the trip loads the next sixteen
    entries and keeps, lane by lane, the greater ones with their numbers; the lanes then hold what `n + 1` groups
    leave. Here `b` is the number of the piece's first entry and `k` the trip. -/
theorem trip_step {r : ℕ → F .f32} {n b k : ℕ} (hn : 16 * n = b + 16 * k) {m v : FVec F ⟨1, ![16]⟩ .f32}
    {i : IVec ⟨1, ![16]⟩ 32} (hm : m = top r n) (hi : i = num r n) (hv : ∀ j, v j = r (16 * n + (j 0).val))
    (h : (⟨1, ![16]⟩ : Shape).ShapeCasts ⟨1, ![16]⟩) (hio : (⟨1, ![16]⟩ : Shape).Iotas .scVector 32 [0]) :
    select (cmpf .ogt (shapeCast ⟨1, ![16]⟩ v h) m) (shapeCast ⟨1, ![16]⟩ v h) m = top r (n + 1)
      ∧ select (cmpf .ogt (shapeCast ⟨1, ![16]⟩ v h) m)
          (addi (iota .scVector ⟨1, ![16]⟩ 32 [0] hio)
            (broadcast ⟨1, ![16]⟩ (Scalar.addi (BitVec.ofNat 32 b) (Scalar.muli (Scf.iv 0#32 1#32 k) 16#32)))) i
        = num r (n + 1) := by
  have hc : ∀ j, shapeCast ⟨1, ![16]⟩ v h j = r (16 * n + (j 0).val) := fun j => by
    rw [← hv]; exact congrArg v (by rw [Shape.reshapeEquiv_self])
  have hw : ∀ j, addi (iota .scVector ⟨1, ![16]⟩ 32 [0] hio)
      (broadcast ⟨1, ![16]⟩ (Scalar.addi (BitVec.ofNat 32 b) (Scalar.muli (Scf.iv 0#32 1#32 k) 16#32))) j
      = BitVec.ofNat 32 (16 * n + (j 0).val) := fun j => by
    rw [hn, ← number_eq]; simp [addi, iota, broadcast]
  subst hm hi
  constructor <;> funext j
  · show Scalar.select (FloatOps.cmpf .ogt (shapeCast ⟨1, ![16]⟩ v h j) _) (shapeCast ⟨1, ![16]⟩ v h j) _ = _
    rw [hc]; rfl
  · show Scalar.select (FloatOps.cmpf .ogt (shapeCast ⟨1, ![16]⟩ v h j) _) (addi _ _ j) _ = _
    rw [hc, hw]; rfl

end Cert.Lanes

end
-- ==== Proof.Greatest.lean ====
/-
  The kernel's answer for a row of extended reals is the number of its greatest entry, the smallest such number where
  several entries are greatest; so is what a fold of the reference's reducer over the row leaves, in any order.

  Pairs of an entry and its number are ordered by `key`: a greater entry comes higher, and of two equal entries the one
  with the smaller number. The kernel's scan of a lane, its combination of the lanes and the reference's fold each take
  the maximum of keys, so each is described by the bounds of the keys it has met.
-/
module

public import proofs.«01_k».proof.Proof.Lanes
public import Idealize.ShloMosaic.PureOps.Ideal.Laws
public import Mathlib.Data.Prod.Lex
public import Mathlib.Order.OrderDual

@[expose] public section

noncomputable section

namespace Cert.Greatest

open Idealize.ShloMosaic Cert.Lanes

/-- An entry with its number, as ordered: the greater entry is higher, and of equal entries the smaller number. -/
def key (p : Ideal .f32 × BitVec 32) : EReal ×ₗ ℕᵒᵈ := toLex (p.1, OrderDual.toDual p.2.toNat)

/-- One key is at most another: its entry is smaller, or equal with a number no smaller. -/
theorem key_le {p q : Ideal .f32 × BitVec 32} :
    key p ≤ key q ↔ (p.1 : EReal) < q.1 ∨ (p.1 : EReal) = q.1 ∧ q.2.toNat ≤ p.2.toNat := Prod.Lex.le_iff

/-- Equal keys are equal pairs. -/
theorem key_inj {p q : Ideal .f32 × BitVec 32} (h : key p = key q) : p = q := by
  have h1 := key_le.1 h.le
  have h2 := key_le.1 h.ge
  rcases h1 with h1 | ⟨h1, h1'⟩
  · rcases h2 with h2 | ⟨h2, _⟩
    · exact absurd h2 h1.not_gt
    · exact absurd h2 h1.ne'
  · rcases h2 with h2 | ⟨_, h2'⟩
    · exact absurd h1.symm h2.ne
    · exact Prod.ext h1 (BitVec.eq_of_toNat_eq (le_antisymm h2' h1'))

/-- One key is below another: its entry is smaller, or equal with a greater number. -/
theorem key_lt {p q : Ideal .f32 × BitVec 32} :
    key p < key q ↔ (p.1 : EReal) < q.1 ∨ (p.1 : EReal) = q.1 ∧ q.2.toNat < p.2.toNat := Prod.Lex.lt_iff

/-- Two choices between `p` and `q`, one of the entry and one of the number, leave the pair with the higher key, if the
    first goes by the greater entry and the second by the higher key. Between equals either may be taken. -/
theorem key_select {c d : BitVec 1} {p q : Ideal .f32 × BitVec 32} (hc : (q.1 : EReal) < p.1 → c = 1#1)
    (hc' : c = 1#1 → ¬ (p.1 : EReal) < q.1) (hd : key q < key p → d = 1#1) (hd' : d = 1#1 → ¬ key p < key q) :
    key (Scalar.select c p.1 q.1, Scalar.select d p.2 q.2) = max (key p) (key q) := by
  have value : ∀ {x : Ideal .f32}, (p.1 = x ∧ q.1 = x) ∨ (c = 1#1 ∧ p.1 = x) ∨ (c ≠ 1#1 ∧ q.1 = x)
      → Scalar.select c p.1 q.1 = x := fun h => by
    rcases h with ⟨h, h'⟩ | ⟨h, h'⟩ | ⟨h, h'⟩
    · rw [h, h']; exact ite_self _
    · exact (if_pos h).trans h'
    · exact (if_neg h).trans h'
  rcases lt_trichotomy (key q) (key p) with h | h | h
  · rw [max_eq_left h.le, show Scalar.select d p.2 q.2 = p.2 from if_pos (hd h), value (x := p.1)]
    exact (key_lt.1 h).elim (fun h => .inr (.inl ⟨hc h, rfl⟩)) fun h => .inl ⟨rfl, h.1⟩
  · obtain rfl := key_inj h
    rw [max_self, value (.inl ⟨rfl, rfl⟩), show Scalar.select d q.2 q.2 = q.2 from ite_self _]
  · rw [max_eq_right h.le, show Scalar.select d p.2 q.2 = q.2 from if_neg fun e => hd' e h, value (x := q.1)]
    exact (key_lt.1 h).elim (fun h => .inr (.inr ⟨fun e => hc' e h, rfl⟩)) fun h => .inl ⟨h.1, rfl⟩

/-- The one-bit word of a truth value is 1 exactly when it is true, -/
theorem ofBool_eq_one {b : Bool} : BitVec.ofBool b = 1#1 ↔ b = true := by cases b <;> simp

/-- an `or` of one-bit words is 1 exactly when one of them is, -/
theorem or_eq_one {c d : BitVec 1} : c ||| d = 1#1 ↔ c = 1#1 ∨ d = 1#1 := by
  revert c d; decide
/-- and an `and` exactly when both are. -/
theorem and_eq_one {c d : BitVec 1} : c &&& d = 1#1 ↔ c = 1#1 ∧ d = 1#1 := by
  revert c d; decide

/-- The comparison "greater" of two extended reals. -/
theorem ogt_iff {a b : Ideal .f32} : FloatOps.cmpf .ogt a b = 1#1 ↔ (b : EReal) < a := by
  rw [Ideal.cmpf_def, Ideal.cmp, ofBool_eq_one, decide_eq_true_iff]
/-- The comparison "equal" of two extended reals. -/
theorem oeq_iff {a b : Ideal .f32} : FloatOps.cmpf .oeq a b = 1#1 ↔ (a : EReal) = b := by
  rw [Ideal.cmpf_def, Ideal.cmp, ofBool_eq_one, decide_eq_true_iff]
/-- No extended real differs from itself. -/
theorem une_self {a : Ideal .f32} : ¬ FloatOps.cmpf .une a a = 1#1 := by
  rw [Ideal.cmpf_def, Ideal.cmp, ofBool_eq_one, decide_eq_true_iff]
  exact not_not.2 rfl

/-- A signed comparison of words below 2 ^ 31 compares them as numbers. -/
theorem slt_iff {a b : BitVec 32} (ha : a.toNat < 2 ^ 31) (hb : b.toNat < 2 ^ 31) :
    IntOp.cmpi .slt a b = 1#1 ↔ a.toNat < b.toNat := by
  simp only [IntOp.cmpi, ofBool_eq_one, BitVec.slt_eq_decide, decide_eq_true_iff, BitVec.toInt_eq_toNat_cond]
  omega

/-- After `n` groups a lane holds a number of an entry of those groups, or 0. -/
theorem scan_num_le (r : ℕ → Ideal .f32) {l : ℕ} : ∀ n, 16 * n + l < 2 ^ 32 → (scan r l n).2.toNat ≤ 16 * n + l
  | 0, _ => Nat.zero_le _
  | n + 1, h => by
    refine select_ind (P := fun b : BitVec 32 => b.toNat ≤ 16 * (n + 1) + l) _ ?_ ((scan_num_le r n (by omega)).trans (by omega))
    rw [BitVec.toNat_ofNat, Nat.mod_eq_of_lt (by omega)]; omega

/-- A lane that meets an entry numbered no lower than the one it holds keeps the one with the higher key. -/
theorem key_keep {v : Ideal .f32} {i : BitVec 32} {p : Ideal .f32 × BitVec 32} (h : p.2.toNat ≤ i.toNat) :
    key (keep v i p) = max (key (v, i)) (key p) :=
  key_select (p := (v, i)) ogt_iff.2 (fun e => (ogt_iff.1 e).not_gt)
    (fun e => (key_lt.1 e).elim ogt_iff.2 fun e => absurd e.2 h.not_gt)
    (fun e => not_lt.2 (key_le.2 (.inl (ogt_iff.1 e))))

/-- When a lane goes before the lanes below it. -/
theorem before_iff {v : Ideal .f32} {i : BitVec 32} {p : Ideal .f32 × BitVec 32} (hi : i.toNat < 2 ^ 31)
    (hp : p.2.toNat < 2 ^ 31) : before v i p = 1#1 ↔ key p < key (v, i) := by
  refine (or_eq_one.trans (or_congr ogt_iff (and_eq_one.trans (and_congr oeq_iff (slt_iff hi hp))))).trans ?_
  rw [key_lt, eq_comm (a := (v : EReal))]

/-- One more lane combined with the lanes below it leaves the higher key. -/
theorem key_pick {M : ℕ → Ideal .f32} {B : ℕ → BitVec 32} (hB : ∀ l, l < 16 → (B l).toNat < 100000) {j : ℕ}
    (hj : j + 1 < 16) : key (pick M B (j + 1)) = max (key (M (j + 1), B (j + 1))) (key (pick M B j)) := by
  have hb := before_iff (v := M (j + 1)) ((hB _ hj).trans (by decide))
    ((pick_num_lt (M := M) hB j (by omega)).trans (by decide))
  exact key_select (p := (M (j + 1), B (j + 1))) (fun e => hb.2 (key_lt.2 (.inl e)))
    (fun e e' => (hb.1 e).not_gt (key_lt.2 (.inl e'))) hb.2 fun e => (hb.1 e).not_gt

/-- What bounds the keys: `c` bounds a lane's key exactly when it bounds the start's and those of all entries met. -/
theorem scan_le {r : ℕ → Ideal .f32} {l : ℕ} (hl : l < 16) {c : EReal ×ₗ ℕᵒᵈ} : ∀ n, n ≤ 6250 →
    (key (scan r l n) ≤ c ↔ key (Scalar.ofBits .f32 0xFF800000#32, 0#32) ≤ c
      ∧ ∀ k, k < n → key (r (16 * k + l), BitVec.ofNat 32 (16 * k + l)) ≤ c)
  | 0, _ => by simp [Lanes.scan]
  | n + 1, hn => by
    have low : (scan r l n).2.toNat ≤ (BitVec.ofNat 32 (16 * n + l)).toNat := by
      rw [BitVec.toNat_ofNat, Nat.mod_eq_of_lt (by omega)]
      exact scan_num_le r n (by omega)
    rw [Lanes.scan, key_keep low, max_le_iff, scan_le hl n (by omega), ← and_assoc, and_comm (a := key _ ≤ c), and_assoc]
    refine and_congr_right fun _ => ⟨fun h k hk => ?_, fun h => ⟨h n (by omega), fun k hk => h k (by omega)⟩⟩
    rcases Nat.lt_succ_iff_lt_or_eq.1 hk with hk | rfl
    · exact h.2 k hk
    · exact h.1

/-- `c` bounds the combined key of lanes `0 … j` exactly when it bounds each lane's. -/
theorem pick_le {M : ℕ → Ideal .f32} {B : ℕ → BitVec 32} (hB : ∀ l, l < 16 → (B l).toNat < 100000)
    {c : EReal ×ₗ ℕᵒᵈ} : ∀ j, j < 16 → (key (pick M B j) ≤ c ↔ ∀ l, l ≤ j → key (M l, B l) ≤ c)
  | 0, _ => ⟨fun h l hl => by obtain rfl := Nat.le_zero.1 hl; exact h, fun h => h 0 le_rfl⟩
  | j + 1, hj => by
    rw [key_pick hB hj, max_le_iff, pick_le hB j (by omega)]
    refine ⟨fun h l hl => ?_, fun h => ⟨h _ le_rfl, fun l hl => h l (by omega)⟩⟩
    rcases Nat.le_succ_iff.1 hl with hl | rfl
    · exact h.2 l hl
    · exact h.1

/-- The pair the kernel is left with at the row's end. -/
def winner (r : ℕ → Ideal .f32) : Ideal .f32 × BitVec 32 :=
  pick (fun l => (scan r l 6250).1) (fun l => (scan r l 6250).2) 15

/-- Its number is the kernel's answer for the row. -/
theorem best_eq (r : ℕ → Ideal .f32) : best r = (winner r).2 := rfl

/-- `c` bounds the kernel's final key exactly when it bounds the start's and those of all the row's entries. -/
theorem winner_le {r : ℕ → Ideal .f32} {c : EReal ×ₗ ℕᵒᵈ} :
    key (winner r) ≤ c ↔ key (Scalar.ofBits .f32 0xFF800000#32, 0#32) ≤ c
      ∧ ∀ i, i < 100000 → key (r i, BitVec.ofNat 32 i) ≤ c := by
  rw [winner, pick_le (fun l hl => scan_num_lt r hl 6250 le_rfl) 15 (by decide)]
  constructor
  · intro h
    refine ⟨((scan_le (by decide) 6250 le_rfl).1 (h 0 (by decide))).1, fun i hi => ?_⟩
    have hl := (scan_le (l := i % 16) (by omega) 6250 le_rfl).1 (h (i % 16) (by omega))
    have := hl.2 (i / 16) (by omega)
    rwa [Nat.div_add_mod] at this
  · exact fun h l hl => (scan_le (by omega) 6250 le_rfl).2 ⟨h.1, fun k hk => h.2 _ (by omega)⟩

/-- A fold that at each pair takes the higher key: `c` bounds what it leaves exactly when it bounds all it met. The
    numbers stay below 2 ^ 31. -/
theorem foldl_le {f : Ideal .f32 × BitVec 32 → Ideal .f32 × BitVec 32 → Ideal .f32 × BitVec 32}
    (hf : ∀ p q, p.2.toNat < 2 ^ 31 → q.2.toNat < 2 ^ 31 → key (f p q) = max (key p) (key q)) {c : EReal ×ₗ ℕᵒᵈ} :
    ∀ (L : List (Ideal .f32 × BitVec 32)) (p : Ideal .f32 × BitVec 32), p.2.toNat < 2 ^ 31
      → (∀ q ∈ L, q.2.toNat < 2 ^ 31) → (key (L.foldl f p) ≤ c ↔ key p ≤ c ∧ ∀ q ∈ L, key q ≤ c)
  | [], p, _, _ => by simp
  | q :: L, p, hp, hL => by
    have hq := hL q (by simp)
    have hpq : (f p q).2.toNat < 2 ^ 31 := by
      rcases max_choice (key p) (key q) with h | h
      · rwa [key_inj ((hf p q hp hq).trans h)]
      · rwa [key_inj ((hf p q hp hq).trans h)]
    rw [List.foldl_cons, foldl_le hf L _ hpq fun q h => hL q (by simp [h]), hf p q hp hq, max_le_iff, and_assoc,
      List.forall_mem_cons]

/-- A fold that at each pair takes the higher key, over the pairs of a row's entries and their numbers in any order and
    from the pair the kernel starts with, leaves the pair the kernel is left with. -/
theorem foldl_eq_winner {f : Ideal .f32 × BitVec 32 → Ideal .f32 × BitVec 32 → Ideal .f32 × BitVec 32}
    (hf : ∀ p q, p.2.toNat < 2 ^ 31 → q.2.toNat < 2 ^ 31 → key (f p q) = max (key p) (key q)) {r : ℕ → Ideal .f32}
    {L : List (Ideal .f32 × BitVec 32)} (hL : ∀ q, q ∈ L ↔ ∃ i, i < 100000 ∧ q = (r i, BitVec.ofNat 32 i)) :
    L.foldl f (Scalar.ofBits .f32 0xFF800000#32, 0#32) = winner r := by
  refine key_inj (eq_of_forall_ge_iff fun c => ?_)
  rw [foldl_le hf L _ (by decide), winner_le]
  · refine and_congr_right fun _ => ⟨fun h i hi => h _ ((hL _).2 ⟨i, hi, rfl⟩), fun h q hq => ?_⟩
    obtain ⟨i, hi, rfl⟩ := (hL q).1 hq
    exact h i hi
  · intro q hq
    obtain ⟨i, hi, rfl⟩ := (hL q).1 hq
    rw [BitVec.toNat_ofNat]; omega

end Cert.Greatest

end
-- ==== Proof.Reference.lean ====
/-
  The run of the reference: a straight line of host operations on one device, with no kernel. From any memory whose
  semaphore counters are zero it ends, its arguments as they were and its result the composition `out` of its operations.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Host

open Cert.ReferenceIdeal Cert.ReferenceIdeal.Gen
open Idealize.ShloMosaic Idealize.ShloMosaic.TcCoe Idealize.ShloMosaic.StableHlo Idealize.SL.Sem

variable {F : FTy → Type} [FloatOps F]

/-- The operations that drop the scores' last axis and find each row's greatest score. -/
abbrev argmaxOps : List (HloOp τ sig (Elt F)) :=
  [ reshape main_arg1 main_v0 rfl shapeCasts_S64x100000x1_S64x100000,
    TRef.nullary main_call0.v0 (iotaInDim S64x100000 32 1),
    TRef.nullary main_call0.cst (constant S_ .f32 0xFF800000#32),
    TRef.nullary main_call0.c (constantI S_ 32 0#32),
    TRef.quaternary (.of main_v0) main_call0.v0 main_call0.cst main_call0.c main_call0.v1_0
      (fun x y u v j => (Host.argReduce reducer_argmax_f32_i32 x y u v reducesTo_S64x100000_S64_d1 h_S_ j).1),
    TRef.quaternary (.of main_v0) main_call0.v0 main_call0.cst main_call0.c main_call0.v1_1
      (fun x y u v j => (Host.argReduce reducer_argmax_f32_i32 x y u v reducesTo_S64x100000_S64_d1 h_S_ j).2) ]

/-- The operations that read the table's row at each number found, or fill with a NaN where it is out of range. -/
abbrev takeOps : List (HloOp τ sig (Elt F)) :=
  [ TRef.nullary main_call1.c (constantI S_ 32 0#32),
    TRef.unary main_call1.c main_call1.v0 (broadcastInDim S64 ![] bcast_S_S64),
    TRef.binary (.of main_v1) main_call1.v0 main_call1.v1 (cmpi .slt),
    TRef.nullary main_call1.c_0 (constantI S_ 32 100000#32),
    TRef.unary main_call1.c_0 main_call1.v2 (broadcastInDim S64 ![] bcast_S_S64),
    TRef.binary (.of main_v1) main_call1.v2 main_call1.v3 addi,
    TRef.ternary main_call1.v1 main_call1.v3 (.of main_v1) main_call1.call0.v0 select,
    TRef.unary main_call1.call0.v0 main_call1.v5 (broadcastInDim S64x1 ![0] bcast_S64_S64x1_0),
    TRef.nullary main_call1.c_1 (constantI S1 32 99999#32),
    TRef.nullary main_call1.c_2 (constantI S_ 32 0#32),
    TRef.unary main_call1.c_2 main_call1.v6 (broadcastInDim S64x1 ![] bcast_S_S64x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S64x1 ![0, 1] bcast_S1x1_S64x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12
      (fun x v => Host.reduce IntOp.andi x v reducesTo_S64x1_S64_d1 h_S_),
    TRef.binary (.of main_arg0) main_call1.v5 main_call1.v13
      (fun x i => Host.gather gather_S100000x64_S64x1_S64x64_1_0_n_n_0_1_164 x i),
    TRef.unary main_call1.v12 main_call1.v14 (broadcastInDim S64x64 ![0] bcast_S64_S64x64_0),
    TRef.nullary main_call1.cst (constant S_ .f32 0x7FC00000#32),
    TRef.unary main_call1.cst main_call1.v15 (broadcastInDim S64x64 ![] bcast_S_S64x64),
    TRef.ternary main_call1.v14 main_call1.v13 main_call1.v15 main_call1.v16 select ]

/-- The program is those operations, one after another. -/
theorem main_eq (c : Dev nD) : main (F := F) c = seq (argmaxOps ++ takeOps) := by
  simp only [main, fn_argmax.body, fn_take.body, fn_where.body, seq, bind_assoc, pure_bind, List.cons_append, List.nil_append]

/-- The second components of a vector of pairs. -/
def number (f : S64.Idx → F .f32 × BitVec 32) : IVec S64 32 := fun j => (f j).2

/-- Each row's greatest score with its number. -/
abbrev searched (s : FVec F S64x100000x1 .f32) : S64.Idx → F .f32 × BitVec 32 :=
  Host.argReduce reducer_argmax_f32_i32 (shapeCast S64x100000 s shapeCasts_S64x100000x1_S64x100000)
    (iotaInDim S64x100000 32 1) (constant S_ .f32 0xFF800000#32) (constantI S_ 32 0#32)
    reducesTo_S64x100000_S64_d1 h_S_

/-- The numbers of the rows' greatest scores. -/
def found (s : FVec F S64x100000x1 .f32) : IVec S64 32 := number (searched s)

/-- `number` entry by entry. -/
theorem number_apply (f : S64.Idx → F .f32 × BitVec 32) (j : S64.Idx) : number f j = (f j).2 := rfl
/-- `found` as `number` of the pairs. -/
theorem found_def (s : FVec F S64x100000x1 .f32) : found s = number (searched s) := rfl

/-- The numbers to read at, a negative one counted from the table's end, as a column. -/
def wrapped (n : IVec S64 32) : IVec S64x1 32 :=
  broadcastInDim S64x1 ![0] bcast_S64_S64x1_0
    (select (cmpi .slt n (broadcastInDim S64 ![] bcast_S_S64 (constantI S_ 32 0#32)))
      (addi n (broadcastInDim S64 ![] bcast_S_S64 (constantI S_ 32 100000#32))) n)

/-- Whether each number is that of a row of the table. -/
def within (w : IVec S64x1 32) : IVec S64 1 :=
  Host.reduce IntOp.andi
    (andi (cmpi .sge w (broadcastInDim S64x1 ![] bcast_S_S64x1 (constantI S_ 32 0#32)))
      (cmpi .sle w (broadcastInDim S64x1 ![0, 1] bcast_S1x1_S64x1_0_1
        (broadcastInDim S1x1 ![1] bcast_S1_S1x1_1 (constantI S1 32 99999#32)))))
    (constantI S_ 1 1#1) reducesTo_S64x1_S64_d1 h_S_

/-- The table's rows at the numbers `n`, a row of NaNs where the number is out of range. -/
def taken (x : FVec F S100000x64 .f32) (n : IVec S64 32) : FVec F S64x64 .f32 :=
  select (broadcastInDim S64x64 ![0] bcast_S64_S64x64_0 (within (wrapped n)))
    (Host.gather gather_S100000x64_S64x1_S64x64_1_0_n_n_0_1_164 x (wrapped n))
    (broadcastInDim S64x64 ![] bcast_S_S64x64 (constant S_ .f32 0x7FC00000#32))

/-- The reference's result. -/
def out (x : FVec F S100000x64 .f32) (s : FVec F S64x100000x1 .f32) : FVec F S64x64 .f32 := taken x (found s)

/-- The first operations leave the numbers found. -/
theorem found_eq (V : Valuation τ sig (Elt F)) :
    after argmaxOps V (main_v1 : DevRef τ sig) = found (V (main_arg1 : DevRef τ sig)) := by
  after_results
  rfl

/-- The rest leave the table's rows at those numbers. -/
theorem taken_eq (V : Valuation τ sig (Elt F)) :
    after takeOps V (main_v2 : DevRef τ sig) = taken (V (main_arg0 : DevRef τ sig)) (V (main_v1 : DevRef τ sig)) := by
  after_results
  rfl

/-- The table is not written while the scores are searched. -/
theorem table_kept (V : Valuation τ sig (Elt F)) :
    after argmaxOps V (main_arg0 : DevRef τ sig) = V (main_arg0 : DevRef τ sig) := by
  after_results

/-- The whole program leaves `out` of its arguments in its result. -/
theorem out_eq (V : Valuation τ sig (Elt F)) :
    after (argmaxOps ++ takeOps) V (main_v2 : DevRef τ sig)
      = out (V (main_arg0 : DevRef τ sig)) (V (main_arg1 : DevRef τ sig)) := by
  refine (show _ = after takeOps (after argmaxOps V) (main_v2 : DevRef τ sig) from rfl).trans ?_
  rw [taken_eq, found_eq, table_kept, out]

/-- No argument is written. -/
theorem args_eq (V : Valuation τ sig (Elt F)) :
    after (argmaxOps ++ takeOps) V (main_arg0 : DevRef τ sig) = V (main_arg0 : DevRef τ sig)
      ∧ after (argmaxOps ++ takeOps) V (main_arg1 : DevRef τ sig) = V (main_arg1 : DevRef τ sig)
      ∧ after (argmaxOps ++ takeOps) V (main_arg2 : DevRef τ sig) = V (main_arg2 : DevRef τ sig) := by
  simp only [List.cons_append, List.nil_append]
  refine ⟨?_, ?_, ?_⟩ <;> after_results

/-- The program scopes no buffer and no semaphore. -/
theorem no_scoped : (Finset.univ.filter fun b : Ref sig .tc => b.isScoped) = ∅
    ∧ (Finset.univ.filter fun k : SemLoc sig => k.isScoped .tc) = ∅ := by decide

/-- The operations touch only the TensorCore's buffers. -/
theorem ops_sub : (argmaxOps ++ takeOps : List (HloOp τ sig (Elt F))).Forall fun op => op.bufs ⊆ tcRefs τ sig :=
  ⟨reshape_bufs_sub .., nullary_bufs_sub .., nullary_bufs_sub .., nullary_bufs_sub .., quaternary_bufs_sub ..,
    quaternary_bufs_sub .., nullary_bufs_sub .., unary_bufs_sub .., binary_bufs_sub .., nullary_bufs_sub ..,
    unary_bufs_sub .., binary_bufs_sub .., ternary_bufs_sub .., unary_bufs_sub .., nullary_bufs_sub ..,
    nullary_bufs_sub .., unary_bufs_sub .., binary_bufs_sub .., unary_bufs_sub .., unary_bufs_sub ..,
    binary_bufs_sub .., binary_bufs_sub .., nullary_bufs_sub .., binary_bufs_sub .., binary_bufs_sub ..,
    unary_bufs_sub .., nullary_bufs_sub .., unary_bufs_sub .., ternary_bufs_sub ..⟩

/-- How every run of the reference from the memory `m` ends: the arguments as they were, the result `out` of them, and
    every semaphore at zero. -/
def Ends (m : (ℓ : Loc nD τ sig) → Buf (Elt F) ℓ) (r : PUnit × MemSt nD τ sig (Elt F)) : Prop :=
  (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.mem ((c.tc : Thread nD τ).loc main_v2)
      = out (m ((c.tc : Thread nD τ).loc main_arg0)) (m ((c.tc : Thread nD τ).loc main_arg1)))
  ∧ r.2.sem = fun _ => 0

/-- Every run of the reference from zero counters ends so. -/
theorem run_main (m : (ℓ : Loc nD τ sig) → Buf (Elt F) ℓ) (ρ : Dev nD → PrngReg) :
    θ_run defs (onTc (τ := τ) (main (F := F))) ⟨m, fun _ => 0, ρ⟩ (Ends m) :=
  (θ_run defs _ _).mono (fun r h => ⟨fun c =>
      ⟨⟨(h c main_arg0).trans (args_eq _).1, (h c main_arg1).trans (args_eq _).2.1,
        (h c main_arg2).trans (args_eq _).2.2⟩, (h c main_v2).trans (out_eq _)⟩,
      Idealize.ShloMosaic.sem_eq_zero_of_no_sems (by decide) r.2⟩)
    (run_seq no_scoped.1 no_scoped.2 defs main (fun _ => argmaxOps ++ takeOps) main_eq (fun _ => ops_sub) m ρ)

end Cert.ReferenceIdeal.Host

end
-- ==== Proof.KernelIdeal.Setup.lean ====
/-
  The program `KernelIdeal` as its launch sees it, the buffers one tile of the kernel uses, and what the tile of
  SparseCore `c` and subcore `s` is handed: a share of the scores and of the table, both whole, and its two rows of the
  result. Everything is stated over an arbitrary float instance.
-/
module

public import proofs.«01_k».proof.Proof.Lanes
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the program's handshake semaphores and buffers. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The scores, flat: row `k` is the entries `100000 k … 100000 k + 99999`. -/
abbrev sLoc (d : Dev nD) : Loc nD τ sig := (SparseCore.T d).loc main_v0
/-- The table, flat: row `k` is the entries `64 k … 64 k + 63`. -/
abbrev xLoc (d : Dev nD) : Loc nD τ sig := (SparseCore.T d).loc main_v1
/-- The result, flat. -/
abbrev oLoc (d : Dev nD) : Loc nD τ sig := (SparseCore.T d).loc main_v2

local notation "sV" => (Memref.whole Cert.KernelIdeal.main_v0_scv : Memref Cert.KernelIdeal.sig Kind.scVector Space.hbm Cert.KernelIdeal.S6400000 EltTy.f32)
local notation "xV" => (Memref.whole Cert.KernelIdeal.main_v1_scv : Memref Cert.KernelIdeal.sig Kind.scVector Space.hbm Cert.KernelIdeal.S6400000 EltTy.f32)
local notation "oV" => (Memref.whole Cert.KernelIdeal.main_v2_scv : Memref Cert.KernelIdeal.sig Kind.scVector Space.hbm Cert.KernelIdeal.S4096 EltTy.f32)
local notation "aV" => (Memref.whole Cert.KernelIdeal.cc0_scratch0 : Memref Cert.KernelIdeal.sig Kind.scVector Space.vmem Cert.KernelIdeal.S20000 EltTy.f32)
local notation "bV" => (Memref.whole Cert.KernelIdeal.cc0_scratch1 : Memref Cert.KernelIdeal.sig Kind.scVector Space.vmem Cert.KernelIdeal.S20000 EltTy.f32)
local notation "rV" => (Memref.whole Cert.KernelIdeal.cc0_scratch2 : Memref Cert.KernelIdeal.sig Kind.scVector Space.vmem Cert.KernelIdeal.S64 EltTy.f32)

/-- Entry `n` of a flat array of 6400000 words (`n` is always in range where this is used). -/
abbrev cell (n : ℕ) : S6400000.Idx :=
  fun a => ⟨n % 6400000, by match a with | 0 => exact Nat.mod_lt _ (by decide)⟩

/-- Row `k` of the flat scores, entry by entry. -/
def row (f : S6400000.Idx → F .f32) (k : ℕ) : ℕ → F .f32 := fun n => f (cell (100000 * k + n))

/-- The flat result the kernel is to leave: entry `j` is in row `j / 64`, and row `k` is the table's row whose number is
    the answer for row `k` of the scores. -/
def target [FloatOps F] (f x : S6400000.Idx → F .f32) : S4096.Idx → F .f32 :=
  fun j => x (cell (64 * (Lanes.best (row f ((j 0).val / 64))).toNat + (j 0).val % 64))

/-! ## One tile's rows and shares -/

theorem rows_dvd : 64 ∣ S4096.size 0 := ⟨64, rfl⟩
/-- The entries of row `k` of the flat result. -/
abbrev orow (k : Fin 64) : Rect S4096 := Rect.part (s := S4096) (a₀ := 0) rows_dvd k
abbrev orowSet (k : Fin 64) : Finset S4096.Idx := ((oV).view.slice (orow k)).set

/-- The number of the tile of SparseCore `c` and subcore `s`. -/
def tileNo (c s : ℕ) : ℕ := 2 * s + c

/-- The rows of the tile: twice its number, and the next one. -/
abbrev krow (c : Fin 2) (s : Fin 16) (b : Fin 2) : Fin 64 :=
  ⟨2 * tileNo c.val s.val + b.val, by unfold tileNo; omega⟩

/-- The share of the scores and of the table that the tile reads. -/
abbrev shr (c s : ℕ) : PosShare TreeShare := Transfers.shareTokN fullShare (tileNo c s)

/-- What a tile is handed: its shares of the scores `fs` and of the table `fx`, and its two rows of the result,
    at contents `fo`. -/
abbrev given (d : Dev nD) (c : Fin 2) (s : Fin 16) (fs : Buf (Elt F) (sLoc d)) (fx : Buf (Elt F) (xLoc d))
    (fo : Buf (Elt F) (oLoc d)) : sProp 𝕄 :=
  iprop((sLoc d ↦{shr c.val s.val} fs) ∗ (xLoc d ↦{shr c.val s.val} fx)
    ∗ (oLoc d ↦[orowSet (krow c s 0)]{fullShare} fo) ∗ (oLoc d ↦[orowSet (krow c s 1)]{fullShare} fo))

end Cert.KernelIdeal.Tile

end
-- ==== Proof.KernelIdeal.Combine.lean ====
/-
  How the kernel combines its sixteen lanes, in the words of the printed program: the payloads that read one lane, and the
  offset at which the table's row is fetched, which is 64 times the answer.
-/
module

public import proofs.«01_k».proof.Proof.KernelIdeal.Setup

@[expose] public section

noncomputable section

namespace Cert.KernelIdeal.Tile

open Cert.KernelIdeal Cert.KernelIdeal.Gen
open Idealize.ShloMosaic

variable {F : FTy → Type} [FloatOps F]

/-- Lane `l` of a vector, as the program reads it: a slice of one lane, and its one word. -/
def lane {α : Type} (x : S16.Idx → α) : ℕ → α
  | 0 => extractAt ![0] (extractStridedSlice S1 ![0] x slices_S16_o0_S1) inpos_S1_p0
  | 1 => extractAt ![0] (extractStridedSlice S1 ![1] x slices_S16_o1_S1) inpos_S1_p0
  | 2 => extractAt ![0] (extractStridedSlice S1 ![2] x slices_S16_o2_S1) inpos_S1_p0
  | 3 => extractAt ![0] (extractStridedSlice S1 ![3] x slices_S16_o3_S1) inpos_S1_p0
  | 4 => extractAt ![0] (extractStridedSlice S1 ![4] x slices_S16_o4_S1) inpos_S1_p0
  | 5 => extractAt ![0] (extractStridedSlice S1 ![5] x slices_S16_o5_S1) inpos_S1_p0
  | 6 => extractAt ![0] (extractStridedSlice S1 ![6] x slices_S16_o6_S1) inpos_S1_p0
  | 7 => extractAt ![0] (extractStridedSlice S1 ![7] x slices_S16_o7_S1) inpos_S1_p0
  | 8 => extractAt ![0] (extractStridedSlice S1 ![8] x slices_S16_o8_S1) inpos_S1_p0
  | 9 => extractAt ![0] (extractStridedSlice S1 ![9] x slices_S16_o9_S1) inpos_S1_p0
  | 10 => extractAt ![0] (extractStridedSlice S1 ![10] x slices_S16_o10_S1) inpos_S1_p0
  | 11 => extractAt ![0] (extractStridedSlice S1 ![11] x slices_S16_o11_S1) inpos_S1_p0
  | 12 => extractAt ![0] (extractStridedSlice S1 ![12] x slices_S16_o12_S1) inpos_S1_p0
  | 13 => extractAt ![0] (extractStridedSlice S1 ![13] x slices_S16_o13_S1) inpos_S1_p0
  | 14 => extractAt ![0] (extractStridedSlice S1 ![14] x slices_S16_o14_S1) inpos_S1_p0
  | 15 => extractAt ![0] (extractStridedSlice S1 ![15] x slices_S16_o15_S1) inpos_S1_p0
  | _ => extractAt ![0] (extractStridedSlice S1 ![0] x slices_S16_o0_S1) inpos_S1_p0

/-- The lanes of a vector given by a function are the function's values. -/
theorem lane_vec {α : Type} (f : ℕ → α) : ∀ l, l ≤ 15 → lane (Lanes.vec f) l = f l := by
  intro l hl
  obtain rfl | rfl | rfl | rfl | rfl | rfl | rfl | rfl | rfl | rfl | rfl | rfl | rfl | rfl | rfl | rfl :
      l = 0 ∨ l = 1 ∨ l = 2 ∨ l = 3 ∨ l = 4 ∨ l = 5 ∨ l = 6 ∨ l = 7 ∨ l = 8 ∨ l = 9 ∨ l = 10 ∨ l = 11 ∨ l = 12 ∨
      l = 13 ∨ l = 14 ∨ l = 15 := by omega
  all_goals rfl

/-- The number left by a lane holding the number `b` and what the lanes below it left, `c`, where `g` and `e` say whether
    the lane's entry is greater than, or equal to, the entry those left. -/
def stepI (b : BitVec 32) (g e : BitVec 1) (c : BitVec 32) : BitVec 32 :=
  Scalar.select (Scalar.ori g (Scalar.andi e (Scalar.cmpi .slt b c))) b c

/-- The entry left by a lane holding the entry `m`, with the entry `v` left by those below it. -/
def stepV (m : F .f32) (b : BitVec 32) (g e : BitVec 1) (c : BitVec 32) (v : F .f32) : F .f32 :=
  Scalar.select (Scalar.ori g (Scalar.andi e (Scalar.cmpi .slt b c))) m v

/-- The number the lanes `0 … j` leave, from the lanes' numbers `b` and the two comparisons `g` (greater) and `e` (equal)
    of each lane with what the lanes below it leave. -/
def chain (b : ℕ → BitVec 32) (g e : ℕ → BitVec 1) : ℕ → BitVec 32
  | 0 => b 0
  | j + 1 => stepI (b (j + 1)) (g (j + 1)) (e (j + 1)) (chain b g e j)

/-- Lane `j` is greater than the entry `v (j - 1)`. -/
abbrev gtBelow (M v : ℕ → F .f32) (j : ℕ) : BitVec 1 := Scalar.cmpf .ogt (M j) (v (j - 1))
/-- Lane `j` is equal to the entry `v (j - 1)`. -/
abbrev eqBelow (M v : ℕ → F .f32) (j : ℕ) : BitVec 1 := Scalar.cmpf .oeq (M j) (v (j - 1))

/-- Entries `v` that follow one another lane by lane are the ones `pick` leaves, and the numbers go with them. -/
theorem chain_pick {M v : ℕ → F .f32} {B : ℕ → BitVec 32} (h0 : v 0 = M 0)
    (hv : ∀ j, j < 14 → v (j + 1) = stepV (M (j + 1)) (B (j + 1)) (gtBelow M v (j + 1)) (eqBelow M v (j + 1))
      (chain B (gtBelow M v) (eqBelow M v) j) (v j)) :
    chain B (gtBelow M v) (eqBelow M v) 15 = (Lanes.pick M B 15).2 := by
  have key : ∀ j, j ≤ 14 → v j = (Lanes.pick M B j).1 ∧ chain B (gtBelow M v) (eqBelow M v) j = (Lanes.pick M B j).2 := by
    intro j
    induction j with
    | zero => exact fun _ => ⟨h0, rfl⟩
    | succ j ih =>
      intro hj
      obtain ⟨h1, h2⟩ := ih (by omega)
      constructor
      · rw [hv j (by omega), h2]
        show stepV _ _ (Scalar.cmpf .ogt _ (v j)) (Scalar.cmpf .oeq _ (v j)) _ _ = _
        rw [h1]; rfl
      · show stepI _ (Scalar.cmpf .ogt _ (v j)) (Scalar.cmpf .oeq _ (v j)) (chain B (gtBelow M v) (eqBelow M v) j) = _
        rw [h1, h2]; rfl
  obtain ⟨h1, h2⟩ := key 14 le_rfl
  show stepI _ (Scalar.cmpf .ogt _ (v 14)) (Scalar.cmpf .oeq _ (v 14)) (chain B (gtBelow M v) (eqBelow M v) 14) = _
  rw [h1, h2]; rfl

/-! ### The entries the lanes leave, by the program's payloads

Each payload states again the comparisons before it, so that it follows from the payload before it by one step. -/

section Payloads

variable (M : FVec F S16 .f32) (B : IVec S16 32)

/-- The step of the numbers at lane `j`, above the entry `v`. -/
abbrev numAt (j : ℕ) (v : F .f32) (c : BitVec 32) : BitVec 32 :=
  stepI (lane B j) (Scalar.cmpf .ogt (lane M j) v) (Scalar.cmpf .oeq (lane M j) v) c
/-- Whether lane `j` goes before the entry `v` with the number `c`. -/
abbrev takes (j : ℕ) (v : F .f32) (c : BitVec 32) : BitVec 1 :=
  Scalar.ori (Scalar.cmpf .ogt (lane M j) v) (Scalar.andi (Scalar.cmpf .oeq (lane M j) v) (Scalar.cmpi .slt (lane B j) c))

/-- First row: the number after lane 4. -/
abbrev numA4 : BitVec 32 :=
  numAt M B 4 (k0_pay33 M B) (numAt M B 3 (k0_pay30 M B) (numAt M B 2 (k0_pay27 M B) (numAt M B 1 (k0_pay23 M) (lane B 0))))
/-- First row: a payload that takes up what lanes 0 to 4 left, `c` the number. -/
abbrev fromA4 (c : BitVec 32) (p : F .f32 → BitVec 32 → F .f32 → BitVec 32 → BitVec 1 → F .f32) : F .f32 :=
  p (k0_pay36 M B) c (lane M 5) (lane B 5) (Scalar.cmpf .ogt (lane M 5) (k0_pay36 M B))
/-- First row: the number after lane 9. -/
abbrev numA9 : BitVec 32 :=
  numAt M B 9 (fromA4 M B (numA4 M B) (k0_pay48 M B)) (numAt M B 8 (fromA4 M B (numA4 M B) (k0_pay45 M B)) (numAt M B 7 (fromA4 M B (numA4 M B) (k0_pay42 M B))
    (numAt M B 6 (fromA4 M B (numA4 M B) k0_pay39) (numAt M B 5 (k0_pay36 M B) (numA4 M B)))))
/-- First row: a payload that takes up what lanes 0 to 10 left, `c` the number after lane 4 and
    `c'` that after lane 9. -/
abbrev fromA10 (c c' : BitVec 32) (p : BitVec 32 → BitVec 32 → BitVec 1 → F .f32 → F .f32) : F .f32 :=
  p c' (lane B 10) (takes M B 10 (fromA4 M B c (k0_pay51 M B)) c') (fromA4 M B c (k0_pay54 M B))

/-- First row: the entry the lanes `0 … j` leave. -/
abbrev leftA : ℕ → F .f32
  | 0 => k0_pay23 M
  | 1 => k0_pay27 M B
  | 2 => k0_pay30 M B
  | 3 => k0_pay33 M B
  | 4 => k0_pay36 M B
  | 5 => fromA4 M B (numA4 M B) k0_pay39
  | 6 => fromA4 M B (numA4 M B) (k0_pay42 M B)
  | 7 => fromA4 M B (numA4 M B) (k0_pay45 M B)
  | 8 => fromA4 M B (numA4 M B) (k0_pay48 M B)
  | 9 => fromA4 M B (numA4 M B) (k0_pay51 M B)
  | 10 => fromA4 M B (numA4 M B) (k0_pay54 M B)
  | 11 => fromA10 M B (numA4 M B) (numA9 M B) (k0_pay57 M B)
  | 12 => fromA10 M B (numA4 M B) (numA9 M B) (k0_pay60 M B)
  | 13 => fromA10 M B (numA4 M B) (numA9 M B) (k0_pay63 M B)
  | 14 => fromA10 M B (numA4 M B) (numA9 M B) (k0_pay66 M B)
  | _ + 15 => k0_pay23 M

/-- Second row: a payload that takes up what lane 0 left. -/
abbrev fromB0 (p : F .f32 → BitVec 32 → F .f32) : F .f32 := p (k0_pay91 M) (lane B 0)
/-- Second row: the number after lane 5. -/
abbrev numB5 : BitVec 32 :=
  numAt M B 5 (fromB0 M B (k0_pay104 M B)) (numAt M B 4 (fromB0 M B (k0_pay101 M B)) (numAt M B 3 (fromB0 M B (k0_pay98 M B))
    (numAt M B 2 (fromB0 M B (k0_pay95 M B)) (numAt M B 1 (k0_pay91 M) (lane B 0)))))
/-- Second row: a payload that takes up what lanes 0 to 5 left, `c` the number. -/
abbrev fromB5 (c : BitVec 32) (p : F .f32 → BitVec 32 → F .f32 → BitVec 32 → BitVec 1 → F .f32) : F .f32 :=
  p (fromB0 M B (k0_pay107 M B)) c (lane M 6) (lane B 6) (Scalar.cmpf .ogt (lane M 6) (fromB0 M B (k0_pay107 M B)))
/-- Second row: the number after lane 10. -/
abbrev numB10 : BitVec 32 :=
  numAt M B 10 (fromB5 M B (numB5 M B) (k0_pay119 M B)) (numAt M B 9 (fromB5 M B (numB5 M B) (k0_pay116 M B)) (numAt M B 8 (fromB5 M B (numB5 M B) (k0_pay113 M B))
    (numAt M B 7 (fromB5 M B (numB5 M B) k0_pay110) (numAt M B 6 (fromB0 M B (k0_pay107 M B)) (numB5 M B)))))
/-- Second row: a payload that takes up what lanes 0 to 11 left, `c` the number after lane 5 and
    `c'` that after lane 10. -/
abbrev fromB11 (c c' : BitVec 32) (p : BitVec 32 → BitVec 32 → BitVec 1 → F .f32 → F .f32) : F .f32 :=
  p c' (lane B 11) (takes M B 11 (fromB5 M B c (k0_pay122 M B)) c') (fromB5 M B c (k0_pay125 M B))

/-- Second row: the entry the lanes `0 … j` leave. -/
abbrev leftB : ℕ → F .f32
  | 0 => k0_pay91 M
  | 1 => fromB0 M B (k0_pay95 M B)
  | 2 => fromB0 M B (k0_pay98 M B)
  | 3 => fromB0 M B (k0_pay101 M B)
  | 4 => fromB0 M B (k0_pay104 M B)
  | 5 => fromB0 M B (k0_pay107 M B)
  | 6 => fromB5 M B (numB5 M B) k0_pay110
  | 7 => fromB5 M B (numB5 M B) (k0_pay113 M B)
  | 8 => fromB5 M B (numB5 M B) (k0_pay116 M B)
  | 9 => fromB5 M B (numB5 M B) (k0_pay119 M B)
  | 10 => fromB5 M B (numB5 M B) (k0_pay122 M B)
  | 11 => fromB5 M B (numB5 M B) (k0_pay125 M B)
  | 12 => fromB11 M B (numB5 M B) (numB10 M B) (k0_pay128 M B)
  | 13 => fromB11 M B (numB5 M B) (numB10 M B) (k0_pay131 M B)
  | 14 => fromB11 M B (numB5 M B) (numB10 M B) (k0_pay134 M B)
  | _ + 15 => k0_pay91 M

theorem leftA_step : ∀ j, j < 14 → leftA M B (j + 1) = stepV (lane M (j + 1)) (lane B (j + 1))
    (gtBelow (lane M) (leftA M B) (j + 1)) (eqBelow (lane M) (leftA M B) (j + 1))
    (chain (lane B) (gtBelow (lane M) (leftA M B)) (eqBelow (lane M) (leftA M B)) j) (leftA M B j) := by
  intro j hj
  match j, hj with
  | 0, _ | 1, _ | 2, _ | 3, _ | 4, _ | 5, _ | 6, _ | 7, _ | 8, _ | 9, _ | 10, _ | 11, _ | 12, _ | 13, _ => rfl

theorem leftB_step : ∀ j, j < 14 → leftB M B (j + 1) = stepV (lane M (j + 1)) (lane B (j + 1))
    (gtBelow (lane M) (leftB M B) (j + 1)) (eqBelow (lane M) (leftB M B) (j + 1))
    (chain (lane B) (gtBelow (lane M) (leftB M B)) (eqBelow (lane M) (leftB M B)) j) (leftB M B j) := by
  intro j hj
  match j, hj with
  | 0, _ | 1, _ | 2, _ | 3, _ | 4, _ | 5, _ | 6, _ | 7, _ | 8, _ | 9, _ | 10, _ | 11, _ | 12, _ | 13, _ => rfl

end Payloads

/-! ### The offset -/

/-- The numbers of the lanes' entries, the lanes' entries and the entries left, when row `r` is scanned. -/
abbrev nums (r : ℕ → F .f32) : ℕ → BitVec 32 := lane (Lanes.num r 6250)
abbrev tops (r : ℕ → F .f32) : ℕ → F .f32 := lane (Lanes.top r 6250)
abbrev keepA (r : ℕ → F .f32) : ℕ → F .f32 := leftA (Lanes.top r 6250) (Lanes.num r 6250)
abbrev keepB (r : ℕ → F .f32) : ℕ → F .f32 := leftB (Lanes.top r 6250) (Lanes.num r 6250)

theorem pick_best (r : ℕ → F .f32) : (Lanes.pick (tops r) (nums r) 15).2 = Lanes.best r :=
  congrArg Prod.snd (Lanes.pick_congr 15 fun l hl => ⟨lane_vec _ l hl, lane_vec _ l hl⟩)

theorem chainA_best (r : ℕ → F .f32) : chain (nums r) (gtBelow (tops r) (keepA r)) (eqBelow (tops r) (keepA r)) 15 = Lanes.best r :=
  (chain_pick (M := tops r) (v := keepA r) rfl (leftA_step _ _)).trans (pick_best r)
theorem chainB_best (r : ℕ → F .f32) : chain (nums r) (gtBelow (tops r) (keepB r)) (eqBelow (tops r) (keepB r)) 15 = Lanes.best r :=
  (chain_pick (M := tops r) (v := keepB r) rfl (leftB_step _ _)).trans (pick_best r)

theorem times64 {w : BitVec 32} (h : w.toNat < 100000) : (Scalar.muli w 64#32).toNat = 64 * w.toNat := by
  simp [Scalar.muli, IntOp.muli, BitVec.toNat_mul]; omega

/-- The word from which the offset of the table's row for the tile's first row is made, from the lanes' numbers and
    comparisons. -/
theorem mult7_chain (b : ℕ → BitVec 32) (g e : ℕ → BitVec 1) :
    k0_mult7 (b 0) (b 1) (g 1) (e 1) (b 2) (g 2) (e 2) (b 3) (g 3) (e 3) (b 4) (g 4) (e 4) (b 5) (g 5) (e 5)
      (b 6) (g 6) (e 6) (b 7) (g 7) (e 7) (b 8) (g 8) (e 8) (b 9) (g 9) (e 9) (b 10) (g 10) (e 10) (b 11) (g 11)
      (e 11) (b 12) (g 12) (e 12) (b 13) (g 13) (e 13) (b 14) (g 14) (e 14) (b 15) (g 15) (e 15)
      = Scalar.muli (chain b g e 15) 64#32 := rfl

/-- That offset. -/
theorem off7_chain (b : ℕ → BitVec 32) (g e : ℕ → BitVec 1) :
    k0_off7 (b 0) (b 1) (g 1) (e 1) (b 2) (g 2) (e 2) (b 3) (g 3) (e 3) (b 4) (g 4) (e 4) (b 5) (g 5) (e 5) (b
      6) (g 6) (e 6) (b 7) (g 7) (e 7) (b 8) (g 8) (e 8) (b 9) (g 9) (e 9) (b 10) (g 10) (e 10) (b 11) (g 11) (e
      11) (b 12) (g 12) (e 12) (b 13) (g 13) (e 13) (b 14) (g 14) (e 14) (b 15) (g 15) (e 15)
      = ![(Scalar.muli (chain b g e 15) 64#32).toNat] := rfl

/-- What the program assumes of the offset holds of the number of a row: the offset is a multiple of 8, and the row lies
    in the table. -/
theorem chk1_chain (b : ℕ → BitVec 32) (g e : ℕ → BitVec 1) (h : (chain b g e 15).toNat < 100000) :
    k0_chk1 (b 0) (b 1) (g 1) (e 1) (b 2) (g 2) (e 2) (b 3) (g 3) (e 3) (b 4) (g 4) (e 4) (b 5) (g 5) (e 5) (b
      6) (g 6) (e 6) (b 7) (g 7) (e 7) (b 8) (g 8) (e 8) (b 9) (g 9) (e 9) (b 10) (g 10) (e 10) (b 11) (g 11) (e
      11) (b 12) (g 12) (e 12) (b 13) (g 13) (e 13) (b 14) (g 14) (e 14) (b 15) (g 15) (e 15) := by
  unfold k0_chk1
  rw [mult7_chain, off7_chain, times64 h]
  refine ⟨by omega, fun a => ?_⟩
  match a with
  | 0 => show 64 * (chain b g e 15).toNat + 64 ≤ 6400000; omega

/-- What the program assumes of the offset of its first row's answer holds, and the offset is 64 times that answer. The
    variables `c` are the numbers left after some of the lanes, one step after another. -/
theorem runA (r : ℕ → F .f32) {M : FVec F S16 .f32} {B : IVec S16 32} (hM : M = Lanes.top r 6250) (hB : B = Lanes.num r 6250)
    {c4 c5 c6 c7 c8 c9 : BitVec 32} (h4 : c4 = numA4 M B)
    (h5 : c5 = numAt M B 5 (k0_pay36 M B) c4)
    (h6 : c6 = numAt M B 6 (fromA4 M B c4 k0_pay39) c5)
    (h7 : c7 = numAt M B 7 (fromA4 M B c4 (k0_pay42 M B)) c6)
    (h8 : c8 = numAt M B 8 (fromA4 M B c4 (k0_pay45 M B)) c7)
    (h9 : c9 = numAt M B 9 (fromA4 M B c4 (k0_pay48 M B)) c8) :
    k0_chk1 (lane B 0)
      (lane B 1) (Scalar.cmpf .ogt (lane M 1) (k0_pay23 M)) (Scalar.cmpf .oeq (lane M 1) (k0_pay23 M))
      (lane B 2) (Scalar.cmpf .ogt (lane M 2) (k0_pay27 M B)) (Scalar.cmpf .oeq (lane M 2) (k0_pay27 M B))
      (lane B 3) (Scalar.cmpf .ogt (lane M 3) (k0_pay30 M B)) (Scalar.cmpf .oeq (lane M 3) (k0_pay30 M B))
      (lane B 4) (Scalar.cmpf .ogt (lane M 4) (k0_pay33 M B)) (Scalar.cmpf .oeq (lane M 4) (k0_pay33 M B))
      (lane B 5) (Scalar.cmpf .ogt (lane M 5) (k0_pay36 M B)) (Scalar.cmpf .oeq (lane M 5) (k0_pay36 M B))
      (lane B 6) (Scalar.cmpf .ogt (lane M 6) (fromA4 M B c4 k0_pay39)) (Scalar.cmpf .oeq (lane M 6) (fromA4 M B c4 k0_pay39))
      (lane B 7) (Scalar.cmpf .ogt (lane M 7) (fromA4 M B c4 (k0_pay42 M B))) (Scalar.cmpf .oeq (lane M 7) (fromA4 M B c4 (k0_pay42 M B)))
      (lane B 8) (Scalar.cmpf .ogt (lane M 8) (fromA4 M B c4 (k0_pay45 M B))) (Scalar.cmpf .oeq (lane M 8) (fromA4 M B c4 (k0_pay45 M B)))
      (lane B 9) (Scalar.cmpf .ogt (lane M 9) (fromA4 M B c4 (k0_pay48 M B))) (Scalar.cmpf .oeq (lane M 9) (fromA4 M B c4 (k0_pay48 M B)))
      (lane B 10) (Scalar.cmpf .ogt (lane M 10) (fromA4 M B c4 (k0_pay51 M B))) (Scalar.cmpf .oeq (lane M 10) (fromA4 M B c4 (k0_pay51 M B)))
      (lane B 11) (Scalar.cmpf .ogt (lane M 11) (fromA4 M B c4 (k0_pay54 M B))) (Scalar.cmpf .oeq (lane M 11) (fromA4 M B c4 (k0_pay54 M B)))
      (lane B 12) (Scalar.cmpf .ogt (lane M 12) (fromA10 M B c4 c9 (k0_pay57 M B))) (Scalar.cmpf .oeq (lane M 12) (fromA10 M B c4 c9 (k0_pay57 M B)))
      (lane B 13) (Scalar.cmpf .ogt (lane M 13) (fromA10 M B c4 c9 (k0_pay60 M B))) (Scalar.cmpf .oeq (lane M 13) (fromA10 M B c4 c9 (k0_pay60 M B)))
      (lane B 14) (Scalar.cmpf .ogt (lane M 14) (fromA10 M B c4 c9 (k0_pay63 M B))) (Scalar.cmpf .oeq (lane M 14) (fromA10 M B c4 c9 (k0_pay63 M B)))
      (lane B 15) (Scalar.cmpf .ogt (lane M 15) (fromA10 M B c4 c9 (k0_pay66 M B))) (Scalar.cmpf .oeq (lane M 15) (fromA10 M B c4 c9 (k0_pay66 M B)))
    ∧ k0_off7 (lane B 0)
      (lane B 1) (Scalar.cmpf .ogt (lane M 1) (k0_pay23 M)) (Scalar.cmpf .oeq (lane M 1) (k0_pay23 M))
      (lane B 2) (Scalar.cmpf .ogt (lane M 2) (k0_pay27 M B)) (Scalar.cmpf .oeq (lane M 2) (k0_pay27 M B))
      (lane B 3) (Scalar.cmpf .ogt (lane M 3) (k0_pay30 M B)) (Scalar.cmpf .oeq (lane M 3) (k0_pay30 M B))
      (lane B 4) (Scalar.cmpf .ogt (lane M 4) (k0_pay33 M B)) (Scalar.cmpf .oeq (lane M 4) (k0_pay33 M B))
      (lane B 5) (Scalar.cmpf .ogt (lane M 5) (k0_pay36 M B)) (Scalar.cmpf .oeq (lane M 5) (k0_pay36 M B))
      (lane B 6) (Scalar.cmpf .ogt (lane M 6) (fromA4 M B c4 k0_pay39)) (Scalar.cmpf .oeq (lane M 6) (fromA4 M B c4 k0_pay39))
      (lane B 7) (Scalar.cmpf .ogt (lane M 7) (fromA4 M B c4 (k0_pay42 M B))) (Scalar.cmpf .oeq (lane M 7) (fromA4 M B c4 (k0_pay42 M B)))
      (lane B 8) (Scalar.cmpf .ogt (lane M 8) (fromA4 M B c4 (k0_pay45 M B))) (Scalar.cmpf .oeq (lane M 8) (fromA4 M B c4 (k0_pay45 M B)))
      (lane B 9) (Scalar.cmpf .ogt (lane M 9) (fromA4 M B c4 (k0_pay48 M B))) (Scalar.cmpf .oeq (lane M 9) (fromA4 M B c4 (k0_pay48 M B)))
      (lane B 10) (Scalar.cmpf .ogt (lane M 10) (fromA4 M B c4 (k0_pay51 M B))) (Scalar.cmpf .oeq (lane M 10) (fromA4 M B c4 (k0_pay51 M B)))
      (lane B 11) (Scalar.cmpf .ogt (lane M 11) (fromA4 M B c4 (k0_pay54 M B))) (Scalar.cmpf .oeq (lane M 11) (fromA4 M B c4 (k0_pay54 M B)))
      (lane B 12) (Scalar.cmpf .ogt (lane M 12) (fromA10 M B c4 c9 (k0_pay57 M B))) (Scalar.cmpf .oeq (lane M 12) (fromA10 M B c4 c9 (k0_pay57 M B)))
      (lane B 13) (Scalar.cmpf .ogt (lane M 13) (fromA10 M B c4 c9 (k0_pay60 M B))) (Scalar.cmpf .oeq (lane M 13) (fromA10 M B c4 c9 (k0_pay60 M B)))
      (lane B 14) (Scalar.cmpf .ogt (lane M 14) (fromA10 M B c4 c9 (k0_pay63 M B))) (Scalar.cmpf .oeq (lane M 14) (fromA10 M B c4 c9 (k0_pay63 M B)))
      (lane B 15) (Scalar.cmpf .ogt (lane M 15) (fromA10 M B c4 c9 (k0_pay66 M B))) (Scalar.cmpf .oeq (lane M 15) (fromA10 M B c4 c9 (k0_pay66 M B))) = ![64 * (Lanes.best r).toNat] := by
  subst hM hB h4 h5 h6 h7 h8 h9
  have hb := chainA_best r
  refine ⟨chk1_chain (nums r) (gtBelow (tops r) (keepA r)) (eqBelow (tops r) (keepA r)) (by rw [hb]; exact Lanes.best_lt r), ?_⟩
  exact (off7_chain (nums r) (gtBelow (tops r) (keepA r)) (eqBelow (tops r) (keepA r))).trans
    (by rw [hb, times64 (Lanes.best_lt r)])

/-- The word from which the offset of the table's row for the tile's second row is made, from the lanes' numbers and
    comparisons. -/
theorem mult13_chain (b : ℕ → BitVec 32) (g e : ℕ → BitVec 1) :
    k0_mult13 (b 0) (b 1) (g 1) (e 1) (b 2) (g 2) (e 2) (b 3) (g 3) (e 3) (b 4) (g 4) (e 4) (b 5) (g 5) (e 5)
      (b 6) (g 6) (e 6) (b 7) (g 7) (e 7) (b 8) (g 8) (e 8) (b 9) (g 9) (e 9) (b 10) (g 10) (e 10) (b 11) (g 11)
      (e 11) (b 12) (g 12) (e 12) (b 13) (g 13) (e 13) (b 14) (g 14) (e 14) (b 15) (g 15) (e 15)
      = Scalar.muli (chain b g e 15) 64#32 := rfl

/-- That offset. -/
theorem off15_chain (b : ℕ → BitVec 32) (g e : ℕ → BitVec 1) :
    k0_off15 (b 0) (b 1) (g 1) (e 1) (b 2) (g 2) (e 2) (b 3) (g 3) (e 3) (b 4) (g 4) (e 4) (b 5) (g 5) (e 5)
      (b 6) (g 6) (e 6) (b 7) (g 7) (e 7) (b 8) (g 8) (e 8) (b 9) (g 9) (e 9) (b 10) (g 10) (e 10) (b 11) (g 11)
      (e 11) (b 12) (g 12) (e 12) (b 13) (g 13) (e 13) (b 14) (g 14) (e 14) (b 15) (g 15) (e 15)
      = ![(Scalar.muli (chain b g e 15) 64#32).toNat] := rfl

/-- What the program assumes of the offset holds of the number of a row: the offset is a multiple of 8, and the row lies
    in the table. -/
theorem chk2_chain (b : ℕ → BitVec 32) (g e : ℕ → BitVec 1) (h : (chain b g e 15).toNat < 100000) :
    k0_chk2 (b 0) (b 1) (g 1) (e 1) (b 2) (g 2) (e 2) (b 3) (g 3) (e 3) (b 4) (g 4) (e 4) (b 5) (g 5) (e 5) (b
      6) (g 6) (e 6) (b 7) (g 7) (e 7) (b 8) (g 8) (e 8) (b 9) (g 9) (e 9) (b 10) (g 10) (e 10) (b 11) (g 11) (e
      11) (b 12) (g 12) (e 12) (b 13) (g 13) (e 13) (b 14) (g 14) (e 14) (b 15) (g 15) (e 15) := by
  unfold k0_chk2
  rw [mult13_chain, off15_chain, times64 h]
  refine ⟨by omega, fun a => ?_⟩
  match a with
  | 0 => show 64 * (chain b g e 15).toNat + 64 ≤ 6400000; omega

/-- What the program assumes of the offset of its second row's answer holds, and the offset is 64 times that answer. The
    variables `c` are the numbers left after some of the lanes, one step after another. -/
theorem runB (r : ℕ → F .f32) {M : FVec F S16 .f32} {B : IVec S16 32} (hM : M = Lanes.top r 6250) (hB : B = Lanes.num r 6250)
    {c1 c2 c3 c4 c5 c6 c7 c8 c9 c10 : BitVec 32} (h1 : c1 = numAt M B 1 (k0_pay91 M) (lane B 0))
    (h2 : c2 = numAt M B 2 (fromB0 M B (k0_pay95 M B)) c1)
    (h3 : c3 = numAt M B 3 (fromB0 M B (k0_pay98 M B)) c2)
    (h4 : c4 = numAt M B 4 (fromB0 M B (k0_pay101 M B)) c3)
    (h5 : c5 = numAt M B 5 (fromB0 M B (k0_pay104 M B)) c4)
    (h6 : c6 = numAt M B 6 (fromB0 M B (k0_pay107 M B)) c5)
    (h7 : c7 = numAt M B 7 (fromB5 M B c5 k0_pay110) c6)
    (h8 : c8 = numAt M B 8 (fromB5 M B c5 (k0_pay113 M B)) c7)
    (h9 : c9 = numAt M B 9 (fromB5 M B c5 (k0_pay116 M B)) c8)
    (h10 : c10 = numAt M B 10 (fromB5 M B c5 (k0_pay119 M B)) c9) :
    k0_chk2 (lane B 0)
      (lane B 1) (Scalar.cmpf .ogt (lane M 1) (k0_pay91 M)) (Scalar.cmpf .oeq (lane M 1) (k0_pay91 M))
      (lane B 2) (Scalar.cmpf .ogt (lane M 2) (fromB0 M B (k0_pay95 M B))) (Scalar.cmpf .oeq (lane M 2) (fromB0 M B (k0_pay95 M B)))
      (lane B 3) (Scalar.cmpf .ogt (lane M 3) (fromB0 M B (k0_pay98 M B))) (Scalar.cmpf .oeq (lane M 3) (fromB0 M B (k0_pay98 M B)))
      (lane B 4) (Scalar.cmpf .ogt (lane M 4) (fromB0 M B (k0_pay101 M B))) (Scalar.cmpf .oeq (lane M 4) (fromB0 M B (k0_pay101 M B)))
      (lane B 5) (Scalar.cmpf .ogt (lane M 5) (fromB0 M B (k0_pay104 M B))) (Scalar.cmpf .oeq (lane M 5) (fromB0 M B (k0_pay104 M B)))
      (lane B 6) (Scalar.cmpf .ogt (lane M 6) (fromB0 M B (k0_pay107 M B))) (Scalar.cmpf .oeq (lane M 6) (fromB0 M B (k0_pay107 M B)))
      (lane B 7) (Scalar.cmpf .ogt (lane M 7) (fromB5 M B c5 k0_pay110)) (Scalar.cmpf .oeq (lane M 7) (fromB5 M B c5 k0_pay110))
      (lane B 8) (Scalar.cmpf .ogt (lane M 8) (fromB5 M B c5 (k0_pay113 M B))) (Scalar.cmpf .oeq (lane M 8) (fromB5 M B c5 (k0_pay113 M B)))
      (lane B 9) (Scalar.cmpf .ogt (lane M 9) (fromB5 M B c5 (k0_pay116 M B))) (Scalar.cmpf .oeq (lane M 9) (fromB5 M B c5 (k0_pay116 M B)))
      (lane B 10) (Scalar.cmpf .ogt (lane M 10) (fromB5 M B c5 (k0_pay119 M B))) (Scalar.cmpf .oeq (lane M 10) (fromB5 M B c5 (k0_pay119 M B)))
      (lane B 11) (Scalar.cmpf .ogt (lane M 11) (fromB5 M B c5 (k0_pay122 M B))) (Scalar.cmpf .oeq (lane M 11) (fromB5 M B c5 (k0_pay122 M B)))
      (lane B 12) (Scalar.cmpf .ogt (lane M 12) (fromB5 M B c5 (k0_pay125 M B))) (Scalar.cmpf .oeq (lane M 12) (fromB5 M B c5 (k0_pay125 M B)))
      (lane B 13) (Scalar.cmpf .ogt (lane M 13) (fromB11 M B c5 c10 (k0_pay128 M B))) (Scalar.cmpf .oeq (lane M 13) (fromB11 M B c5 c10 (k0_pay128 M B)))
      (lane B 14) (Scalar.cmpf .ogt (lane M 14) (fromB11 M B c5 c10 (k0_pay131 M B))) (Scalar.cmpf .oeq (lane M 14) (fromB11 M B c5 c10 (k0_pay131 M B)))
      (lane B 15) (Scalar.cmpf .ogt (lane M 15) (fromB11 M B c5 c10 (k0_pay134 M B))) (Scalar.cmpf .oeq (lane M 15) (fromB11 M B c5 c10 (k0_pay134 M B)))
    ∧ k0_off15 (lane B 0)
      (lane B 1) (Scalar.cmpf .ogt (lane M 1) (k0_pay91 M)) (Scalar.cmpf .oeq (lane M 1) (k0_pay91 M))
      (lane B 2) (Scalar.cmpf .ogt (lane M 2) (fromB0 M B (k0_pay95 M B))) (Scalar.cmpf .oeq (lane M 2) (fromB0 M B (k0_pay95 M B)))
      (lane B 3) (Scalar.cmpf .ogt (lane M 3) (fromB0 M B (k0_pay98 M B))) (Scalar.cmpf .oeq (lane M 3) (fromB0 M B (k0_pay98 M B)))
      (lane B 4) (Scalar.cmpf .ogt (lane M 4) (fromB0 M B (k0_pay101 M B))) (Scalar.cmpf .oeq (lane M 4) (fromB0 M B (k0_pay101 M B)))
      (lane B 5) (Scalar.cmpf .ogt (lane M 5) (fromB0 M B (k0_pay104 M B))) (Scalar.cmpf .oeq (lane M 5) (fromB0 M B (k0_pay104 M B)))
      (lane B 6) (Scalar.cmpf .ogt (lane M 6) (fromB0 M B (k0_pay107 M B))) (Scalar.cmpf .oeq (lane M 6) (fromB0 M B (k0_pay107 M B)))
      (lane B 7) (Scalar.cmpf .ogt (lane M 7) (fromB5 M B c5 k0_pay110)) (Scalar.cmpf .oeq (lane M 7) (fromB5 M B c5 k0_pay110))
      (lane B 8) (Scalar.cmpf .ogt (lane M 8) (fromB5 M B c5 (k0_pay113 M B))) (Scalar.cmpf .oeq (lane M 8) (fromB5 M B c5 (k0_pay113 M B)))
      (lane B 9) (Scalar.cmpf .ogt (lane M 9) (fromB5 M B c5 (k0_pay116 M B))) (Scalar.cmpf .oeq (lane M 9) (fromB5 M B c5 (k0_pay116 M B)))
      (lane B 10) (Scalar.cmpf .ogt (lane M 10) (fromB5 M B c5 (k0_pay119 M B))) (Scalar.cmpf .oeq (lane M 10) (fromB5 M B c5 (k0_pay119 M B)))
      (lane B 11) (Scalar.cmpf .ogt (lane M 11) (fromB5 M B c5 (k0_pay122 M B))) (Scalar.cmpf .oeq (lane M 11) (fromB5 M B c5 (k0_pay122 M B)))
      (lane B 12) (Scalar.cmpf .ogt (lane M 12) (fromB5 M B c5 (k0_pay125 M B))) (Scalar.cmpf .oeq (lane M 12) (fromB5 M B c5 (k0_pay125 M B)))
      (lane B 13) (Scalar.cmpf .ogt (lane M 13) (fromB11 M B c5 c10 (k0_pay128 M B))) (Scalar.cmpf .oeq (lane M 13) (fromB11 M B c5 c10 (k0_pay128 M B)))
      (lane B 14) (Scalar.cmpf .ogt (lane M 14) (fromB11 M B c5 c10 (k0_pay131 M B))) (Scalar.cmpf .oeq (lane M 14) (fromB11 M B c5 c10 (k0_pay131 M B)))
      (lane B 15) (Scalar.cmpf .ogt (lane M 15) (fromB11 M B c5 c10 (k0_pay134 M B))) (Scalar.cmpf .oeq (lane M 15) (fromB11 M B c5 c10 (k0_pay134 M B))) = ![64 * (Lanes.best r).toNat] := by
  subst hM hB h1 h2 h3 h4 h5 h6 h7 h8 h9 h10
  have hb := chainB_best r
  refine ⟨chk2_chain (nums r) (gtBelow (tops r) (keepB r)) (eqBelow (tops r) (keepB r)) (by rw [hb]; exact Lanes.best_lt r), ?_⟩
  exact (off15_chain (nums r) (gtBelow (tops r) (keepB r)) (eqBelow (tops r) (keepB r))).trans
    (by rw [hb, times64 (Lanes.best_lt r)])

end Cert.KernelIdeal.Tile

end
-- ==== Proof.KernelIdeal.Tile.lean ====
module

public import proofs.«01_k».proof.Proof.KernelIdeal.Combine

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "sV" => (Memref.whole Cert.KernelIdeal.main_v0_scv : Memref Cert.KernelIdeal.sig Kind.scVector Space.hbm Cert.KernelIdeal.S6400000 EltTy.f32)
local notation "xV" => (Memref.whole Cert.KernelIdeal.main_v1_scv : Memref Cert.KernelIdeal.sig Kind.scVector Space.hbm Cert.KernelIdeal.S6400000 EltTy.f32)
local notation "oV" => (Memref.whole Cert.KernelIdeal.main_v2_scv : Memref Cert.KernelIdeal.sig Kind.scVector Space.hbm Cert.KernelIdeal.S4096 EltTy.f32)
local notation "aV" => (Memref.whole Cert.KernelIdeal.cc0_scratch0 : Memref Cert.KernelIdeal.sig Kind.scVector Space.vmem Cert.KernelIdeal.S20000 EltTy.f32)
local notation "bV" => (Memref.whole Cert.KernelIdeal.cc0_scratch1 : Memref Cert.KernelIdeal.sig Kind.scVector Space.vmem Cert.KernelIdeal.S20000 EltTy.f32)
local notation "rV" => (Memref.whole Cert.KernelIdeal.cc0_scratch2 : Memref Cert.KernelIdeal.sig Kind.scVector Space.vmem Cert.KernelIdeal.S64 EltTy.f32)

variable (d : Dev nD) (L : grid0.Coords)

abbrev cV (L : grid0.Coords) : Fin τ.nSC := (L 0).castLE hcore0
abbrev jV (L : grid0.Coords) : Fin τ.nSub := (L 1).castLE hsub0

theorem bound_core : grid0.bound 0 = 2 := rfl
theorem bound_sub : grid0.bound 1 = 16 := rfl
abbrev cL (L : grid0.Coords) : Fin 2 := Fin.cast bound_core (L 0)
abbrev jL (L : grid0.Coords) : Fin 16 := Fin.cast bound_sub (L 1)

/-! ## The windows of the scores a tile fetches, in closed form -/

theorem off1_0 : ∀ L : grid0.Coords, k0_off1 L 0#32 0#32 = ![400000 * (L 1).val + 200000 * (L 0).val] := by decide +kernel
theorem off1_1 : ∀ L : grid0.Coords, k0_off1 L 0#32 20000#32 = ![400000 * (L 1).val + 200000 * (L 0).val + 20000] := by decide +kernel
theorem off1_2 : ∀ L : grid0.Coords, k0_off1 L 0#32 40000#32 = ![400000 * (L 1).val + 200000 * (L 0).val + 40000] := by decide +kernel
theorem off1_3 : ∀ L : grid0.Coords, k0_off1 L 0#32 60000#32 = ![400000 * (L 1).val + 200000 * (L 0).val + 60000] := by decide +kernel
theorem off1_4 : ∀ L : grid0.Coords, k0_off1 L 0#32 80000#32 = ![400000 * (L 1).val + 200000 * (L 0).val + 80000] := by decide +kernel
theorem off1_5 : ∀ L : grid0.Coords, k0_off1 L 1#32 0#32 = ![400000 * (L 1).val + 200000 * (L 0).val + 100000] := by decide +kernel

instance : ClosedOff (k0_off1 L 0#32 0#32) := ⟨_, off1_0 L⟩
instance : ClosedOff (k0_off1 L 0#32 20000#32) := ⟨_, off1_1 L⟩
instance : ClosedOff (k0_off1 L 0#32 40000#32) := ⟨_, off1_2 L⟩
instance : ClosedOff (k0_off1 L 0#32 60000#32) := ⟨_, off1_3 L⟩
instance : ClosedOff (k0_off1 L 0#32 80000#32) := ⟨_, off1_4 L⟩
instance : ClosedOff (k0_off1 L 1#32 0#32) := ⟨_, off1_5 L⟩

/-! ## The tile's semaphores and buffers -/

/-- A DMA semaphore of the tile at `L`. -/
abbrev dmaAt (s : DmaSem sig) : GSem nD τ sig := (V d (cV L) (jV L), .dma s)

theorem dmaAt_ne {s s' : DmaSem sig} (h : s ≠ s') : dmaAt d L s ≠ dmaAt d L s' :=
  fun e => h (SemLoc.dma.inj (Prod.ext_iff.mp e).2)

theorem dmaAt_own (s : DmaSem sig) (h : (SemLoc.dma s : SemLoc sig).isScoped .scVector = true) :
    dmaAt d L s ∈ ownCells (V d (cV L) (jV L)) := mem_ownCells.mpr ⟨rfl, h⟩

/-- The cells of the tile that the kernel does not use. -/
abbrev cellsLeft : Finset (GSem nD τ sig) :=
  ((((((ownCells (V d (cV L) (jV L))).erase (dmaAt d L cc0_scratch3.sem)).erase (dmaAt d L cc0_scratch4.sem)).erase
    (dmaAt d L cc0_scoped0.sem)).erase (dmaAt d L cc0_scoped1.sem)).erase (dmaAt d L cc0_scoped2.sem)).erase
    (dmaAt d L cc0_scoped3.sem)

/-- The six DMA semaphores the kernel uses are among the tile's own. -/
theorem ownSems0_V :
    (ownSems0 (V d (cV L) (jV L)) : sProp 𝕄)
      = iprop(semVal (dmaAt d L cc0_scratch3.sem) 0 ∗ semVal (dmaAt d L cc0_scratch4.sem) 0
          ∗ semVal (dmaAt d L cc0_scoped0.sem) 0 ∗ semVal (dmaAt d L cc0_scoped1.sem) 0
          ∗ semVal (dmaAt d L cc0_scoped2.sem) 0 ∗ semVal (dmaAt d L cc0_scoped3.sem) 0
          ∗ bigSep (cellsLeft d L) fun g => semVal g 0) := by
  have out : ∀ {s s' : DmaSem sig} {X : Finset (GSem nD τ sig)}, s' ≠ s → dmaAt d L s' ∈ X →
      dmaAt d L s' ∈ X.erase (dmaAt d L s) := fun h m => Finset.mem_erase.mpr ⟨dmaAt_ne d L h, m⟩
  have own := dmaAt_own d L
  unfold SparseCore.Cfg.ownSems0
  rw [SparseCore.bigSep_erase' (own cc0_scratch3.sem (by decide)),
    SparseCore.bigSep_erase' (out (by decide) (own cc0_scratch4.sem (by decide))),
    SparseCore.bigSep_erase' (out (by decide) (out (by decide) (own cc0_scoped0.sem (by decide)))),
    SparseCore.bigSep_erase' (out (by decide) (out (by decide) (out (by decide) (own cc0_scoped1.sem (by decide))))),
    SparseCore.bigSep_erase' (out (by decide) (out (by decide) (out (by decide) (out (by decide)
      (own cc0_scoped2.sem (by decide)))))),
    SparseCore.bigSep_erase' (out (by decide) (out (by decide) (out (by decide) (out (by decide) (out (by decide)
      (own cc0_scoped3.sem (by decide)))))))]

/-- A scratch buffer of the tile at `L`. -/
abbrev refAt (r : Ref sig .scVector) : DevRef τ sig := (Proc.scVector (cV L) (jV L)).devRef r

theorem refAt_ne {r r' : Ref sig .scVector} (h : r ≠ r') : refAt L r ≠ refAt L r' :=
  fun e => h (Proc.devRef_injective _ e)

/-- The buffers of the tile that the kernel does not use. -/
abbrev bufsLeft : Finset (DevRef τ sig) :=
  (((ownRefs (τ := τ) (.scVector (cV L) (jV L))).erase (refAt L cc0_scratch0)).erase (refAt L cc0_scratch1)).erase
    (refAt L cc0_scratch2)

/-- The three buffers the kernel uses are among the tile's own. -/
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ bigSep (bufsLeft L) fun b => iprop(∃ f, ((d, b) : Loc nD τ sig) ↦{fullShare} f)) := by
  have m0 : refAt L cc0_scratch0 ∈ ownRefs (τ := τ) (.scVector (cV L) (jV L)) := SparseCore.Cfg.mem_ownRefs_of_owner rfl
  have m1 : refAt L cc0_scratch1 ∈ ownRefs (τ := τ) (.scVector (cV L) (jV L)) := SparseCore.Cfg.mem_ownRefs_of_owner rfl
  have m2 : refAt L cc0_scratch2 ∈ ownRefs (τ := τ) (.scVector (cV L) (jV L)) := SparseCore.Cfg.mem_ownRefs_of_owner rfl
  unfold SparseCore.Cfg.ownBufs
  refine (SparseCore.bigSep_erase' m0).trans ?_
  rw [SparseCore.bigSep_erase' (Finset.mem_erase.mpr ⟨refAt_ne L (by decide), m1⟩),
    SparseCore.bigSep_erase' (Finset.mem_erase.mpr ⟨refAt_ne L (by decide),
      Finset.mem_erase.mpr ⟨refAt_ne L (by decide), m2⟩⟩)]

theorem pts_sV (q : PosShare TreeShare) (f : Buf (Elt F) (sLoc d)) :
    ((sV).view.loc (V d (cV L) (jV L)) ↦{q} f : sProp 𝕄) = sLoc d ↦{q} f := rfl
theorem pts_xV (q : PosShare TreeShare) (f : Buf (Elt F) (xLoc d)) :
    ((xV).view.loc (V d (cV L) (jV L)) ↦{q} f : sProp 𝕄) = xLoc d ↦{q} f := rfl
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
theorem pts_bV (f : Buf (Elt F) ((V d (cV L) (jV L)).loc cc0_scratch1)) :
    ((bV).view.loc (V d (cV L) (jV L)) ↦{fullShare} f : sProp 𝕄) = (V d (cV L) (jV L)).loc cc0_scratch1 ↦{fullShare} f := rfl
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-- The tile's two rows of the result, as the kernel slices them. -/
abbrev o0K : Memref sig .scVector .hbm S64 .f32 := (oV).slice (Rect.unit (s := S4096) (k0_off8 L) S64.size (k0_off8_inb L)) (fun _ => rfl)
abbrev o1K : Memref sig .scVector .hbm S64 .f32 := (oV).slice (Rect.unit (s := S4096) (k0_off16 L) S64.size (k0_off16_inb L)) (fun _ => rfl)

theorem set_o0K : (o0K L).view.set = orowSet (krow (cL L) (jL L) 0) := by
  show ((oV).view.slice (Rect.unit (s := S4096) (k0_off8 L) S64.size (k0_off8_inb L))).set = _
  rw [show Rect.unit (s := S4096) (k0_off8 L) S64.size (k0_off8_inb L) = orow (krow (cL L) (jL L) 0) from ?_]
  unfold orow Rect.part Rect.block
  congr 1 <;> funext a <;> match a with
    | 0 => simp [k0_off8_eq, Shape.partIx, Shape.partSize, tileNo]; try omega
theorem set_o1K : (o1K L).view.set = orowSet (krow (cL L) (jL L) 1) := by
  show ((oV).view.slice (Rect.unit (s := S4096) (k0_off16 L) S64.size (k0_off16_inb L))).set = _
  rw [show Rect.unit (s := S4096) (k0_off16 L) S64.size (k0_off16_inb L) = orow (krow (cL L) (jL L) 1) from ?_]
  unfold orow Rect.part Rect.block
  congr 1 <;> funext a <;> match a with
    | 0 => simp [k0_off16_eq, Shape.partIx, Shape.partSize, tileNo]; try omega

theorem pts_o0K (f : Buf (Elt F) (oLoc d)) :
    ((o0K L).view.loc (V d (cV L) (jV L)) ↦[(o0K L).view.set]{fullShare} f : sProp 𝕄)
      = oLoc d ↦[orowSet (krow (cL L) (jL L) 0)]{fullShare} f := by rw [set_o0K]
theorem pts_o1K (f : Buf (Elt F) (oLoc d)) :
    ((o1K L).view.loc (V d (cV L) (jV L)) ↦[(o1K L).view.set]{fullShare} f : sProp 𝕄)
      = oLoc d ↦[orowSet (krow (cL L) (jL L) 1)]{fullShare} f := by rw [set_o1K]

variable [FloatOps F]

/-! ## The loops -/

/-- The scan of a piece of row `r` whose first entry is `b`, after `n` groups of the row: the piece is in the buffer `M`,
    and the carried values are what the `n` groups leave. -/
def scanned (M : Memref sig .scVector .vmem S20000 .f32) (r : ℕ → F .f32) (b n : ℕ) (acc : FVec F S16 .f32 × IVec S16 32) :
    sProp 𝕄 :=
  iprop(∃ g : Buf (Elt F) (M.view.loc (V d (cV L) (jV L))),
    ⌜acc.1 = Lanes.top r n ∧ acc.2 = Lanes.num r n ∧ ∀ j, M.view.read (Elt F) g j = r (b + (j 0).val)⌝
      ∗ (M.view.loc (V d (cV L) (jV L)) ↦{fullShare} g))

/-- Every loop makes 1250 trips. -/
theorem trips_eq : Scf.trips 0#32 (Scalar.addi 0#32 1250#32) 1#32 = 1250 := by decide +kernel

/-- The number of the first of the tile's two rows. -/
abbrev rowNo : ℕ := 4 * (L 1).val + 2 * (L 0).val

/-- One trip, whatever the two payloads, if they keep the greater entries: the group is loaded, and the carried values
    are then what one group more leaves. -/
theorem trip (M : Memref sig .scVector .vmem S20000 .f32) (r : ℕ → F .f32) {b n k : ℕ} (hn : 16 * n = b + 16 * k)
    {off : Fin 1 → ℕ} (hin : ∀ a, off a + S16.size a ≤ S20000.size a) (hoff : off = ![16 * k])
    (m : FVec F S16 .f32) (i : IVec S16 32) (P : Vec F S16 .f32 → FVec F S16 .f32 × IVec S16 32)
    (hP : m = Lanes.top r n → i = Lanes.num r n → ∀ v : Vec F S16 .f32, (∀ j, v j = r (16 * n + (j 0).val)) →
      (P v).1 = Lanes.top r (n + 1) ∧ (P v).2 = Lanes.num r (n + 1)) :
    scanned d L M r b n (m, i)
      ⊢ wp frame (wpE (defs₀ (F := F)) 𝒱₀ (V d (cV L) (jV L)) none) Set.univ
          (do
            let v : Vec F S16 .f32 ← Prog.lift (.load M (Rect.unit (s := S20000) off S16.size hin).toLoadRect (View.loadsAt_vmem h_S16))
            pure (P v))
          (scanned d L M r b (n + 1)) := by
  haveI : ClosedOff off := ⟨_, hoff⟩
  unfold scanned
  iintro ⟨%g, %hg, H⟩
  obtain ⟨hm, hi, hg⟩ := hg
  sl_exec
  sl_step
  iexists g
  isplitr
  · ipureintro
    obtain ⟨h₁, h₂⟩ := hP hm hi (M.view.readAt (Elt F) (Rect.unit (s := S20000) off S16.size hin).toLoadRect g) (fun j => by
      rw [View.readAt_apply, hg]
      congr 1
      subst hoff
      show b + (16 * k + 1 * (j 0).val) = _
      omega)
    exact ⟨h₁, h₂, hg⟩
  · iexact H

/-- What the copy of a piece brings: the window of the scores at `o` is the piece of row `k` whose first entry is `b`. -/
theorem fetched (fs : Buf (Elt F) (sLoc d)) {k b o : ℕ} (ho : o = 100000 * k + b) {off : Fin 1 → ℕ}
    (hin : ∀ a, off a + S20000.size a ≤ S6400000.size a) (hoff : off = ![o]) (j : S20000.Idx) :
    ((sV).slice (Rect.unit (s := S6400000) off S20000.size hin) (fun _ => rfl)).view.read (Elt F) fs j
      = row fs k (b + (j 0).val) := by
  subst hoff
  have h0 : o + 20000 ≤ 6400000 := hin 0
  have hj : (j 0).val < 20000 := (j 0).isLt
  show fs _ = fs _
  congr 1
  funext a
  match a with
  | 0 =>
    apply Fin.ext
    show o + 1 * (j 0).val = (100000 * k + (b + (j 0).val)) % 6400000
    rw [Nat.mod_eq_of_lt (by omega)]; omega

/-- A loop is entered with its piece landed and the values carried over from the piece before. -/
theorem enter (M : Memref sig .scVector .vmem S20000 .f32) {r : ℕ → F .f32} {b n : ℕ} {m : FVec F S16 .f32} {i : IVec S16 32}
    (hm : m = Lanes.top r n) (hi : i = Lanes.num r n) (f : Buf (Elt F) (M.view.loc (V d (cV L) (jV L))))
    {P : S20000.Idx → Elt F .f32} (hP : ∀ j, P j = r (b + (j 0).val)) :
    (M.view.loc (V d (cV L) (jV L)) ↦{fullShare} View.write (Elt F) M.view f P Finset.univ : sProp 𝕄)
      ⊢ scanned d L M r b n (m, i) := by
  unfold scanned
  iintro H
  iexists (View.write (Elt F) M.view f P Finset.univ)
  isplitr
  · ipureintro
    exact ⟨hm, hi, fun j => by rw [View.read_write_univ]; exact hP j⟩
  · iexact H

/-- A loop leaves its buffer and the values carried. -/
theorem leave (M : Memref sig .scVector .vmem S20000 .f32) {r : ℕ → F .f32} {b n n' : ℕ} (hn : n = n')
    {acc : FVec F S16 .f32 × IVec S16 32} :
    scanned d L M r b n acc
      ⊢ iprop(∃ g : Buf (Elt F) (M.view.loc (V d (cV L) (jV L))), ⌜acc = (Lanes.top r n', Lanes.num r n')⌝
          ∗ (M.view.loc (V d (cV L) (jV L)) ↦{fullShare} g)) := by
  subst hn
  unfold scanned
  iintro ⟨%g, %h, H⟩
  iexists g
  isplitr
  · ipureintro; exact Prod.ext h.1 h.2.1
  · iexact H

/-- What the copy of a row of the table brings: the window of the table at `64 n` is the row `n`. -/
theorem looked (fx : Buf (Elt F) (xLoc d)) {n : ℕ} {off : Fin 1 → ℕ} (hin : ∀ a, off a + S64.size a ≤ S6400000.size a)
    (hoff : off = ![64 * n]) (j : S64.Idx) :
    ((xV).slice (Rect.unit (s := S6400000) off S64.size hin) (fun _ => rfl)).view.read (Elt F) fx j
      = fx (cell (64 * n + (j 0).val)) := by
  subst hoff
  have h0 : 64 * n + 64 ≤ 6400000 := hin 0
  have hj : (j 0).val < 64 := (j 0).isLt
  show fx _ = fx _
  congr 1
  funext a
  match a with
  | 0 =>
    apply Fin.ext
    show 64 * n + 1 * (j 0).val = (64 * n + (j 0).val) % 6400000
    rw [Nat.mod_eq_of_lt (by omega)]; omega

/-- A row of the result, written with the table's row for the answer, is what it is to be. -/
theorem landed (fs : Buf (Elt F) (sLoc d)) (fx : Buf (Elt F) (xLoc d)) (g : S4096.Idx → F .f32) {k o : ℕ} (ho : o = 64 * k)
    {off : Fin 1 → ℕ} (hin : ∀ a, off a + S64.size a ≤ S4096.size a) (hoff : off = ![o]) {P : S64.Idx → F .f32}
    (hP : ∀ j, P j = fx (cell (64 * (Lanes.best (row fs k)).toNat + (j 0).val))) :
    ∀ x ∈ ((oV).slice (Rect.unit (s := S4096) off S64.size hin) (fun _ => rfl)).view.set,
      ((oV).slice (Rect.unit (s := S4096) off S64.size hin) (fun _ => rfl)).view.writes (Elt F) g [⟨Rect.whole S64, P⟩] x
        = target fs fx x := by
  subst hoff ho
  intro x hx
  obtain ⟨j, -, rfl⟩ := Finset.mem_map.mp hx
  have hj : (j 0).val < 64 := (j 0).isLt
  refine (congrFun (View.read_writes_whole (Val := Elt F) (s := S64) ((oV).slice (Rect.unit (s := S4096) ![64 * k] S64.size hin) (fun _ => rfl)).view g P) j).trans ?_
  rw [hP j]
  show fx _ = fx (cell (64 * (Lanes.best (row fs ((64 * k + 1 * (j 0).val) / 64))).toNat + (64 * k + 1 * (j 0).val) % 64))
  rw [show (64 * k + 1 * (j 0).val) / 64 = k by omega, show (64 * k + 1 * (j 0).val) % 64 = (j 0).val by omega]

/-- A wait on one of the tile's own transfers adds to the waits only an entry that belongs to no round. -/
theorem only_none {W W' : Waits sig (HIx 1)} {s : SemLoc sig} (h : ∀ p ∈ W', p ∈ W ∨ p.2 = none) :
    ∀ p ∈ insert (s, (default : HIx 1)) W', p ∈ W ∨ p.2 = none := fun p hp =>
  (Finset.mem_insert.mp hp).elim (fun e => .inr (e ▸ rfl)) (h p)

/-- The window of the second row's piece `r`. -/
theorem off9_at (r : Fin 5) {w : BitVec 32} (hw : w = BitVec.ofNat 32 (20000 * r.val)) :
    k0_off9 L w = ![100000 * (rowNo L + 1) + 20000 * r.val] := by
  rw [hw, k0_off9_eq]
  congr 1
  unfold rowNo
  omega

set_option maxHeartbeats 4000000 in
theorem tile_body (hF : (K (F := F)).Facts) (O : CellTallies nD τ sig (HIx 1)) (W : Waits sig (HIx 1)) (hO : ∀ g, O g none = 0)
    (fs : Buf (Elt F) (sLoc d)) (fx : Buf (Elt F) (xLoc d)) (fo : Buf (Elt F) (oLoc d)) :
    iprop(levAts (K (F := F)).L (K (F := F)).lev ∗ emp
        ∗ given d (cL L) (jL L) fs fx fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_scan_argmax_gather L sV (Memref.isWhole_whole _) xV (Memref.isWhole_whole _) oV (Memref.isWhole_whole _)
            aV (Memref.isWhole_whole _) bV (Memref.isWhole_whole _) rV (Memref.isWhole_whole _)
            cc0_scratch3 cc0_scratch4 cc0_scoped0 cc0_scoped1 cc0_scoped2 cc0_scoped3)
          fun _ => iprop(given d (cL L) (jL L) fs fx (target fs fx)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_scan_argmax_gather_eq_skeleton]; unfold cc0_scan_argmax_gather_skel
  rw [(K (F := F)).scopedBufs_V hF d (cV L) (jV L), SparseCore.Cfg.scopedSems0_V (Val := Elt F) d (cV L) (jV L), ownSems0_V, ownBufs_V]
  iintro ⟨#Hlv, -, ⟨Hs, Hx, Ho0, Ho1⟩, ⟨⟨%fa, Ha⟩, ⟨%fb, Hb⟩, ⟨%fr, Hr⟩, Hbufs⟩, ⟨HsemA, HsemB, Hsem0, Hsem1, Hsem2, Hsem3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (pts_sV (F := F) d L _ _).symm) $$ Hs
  ihave Hx' := (Entails.of_eq (pts_xV (F := F) d L _ _).symm) $$ Hx
  ihave Ho0' := (Entails.of_eq (pts_o0K (F := F) d L _).symm) $$ Ho0
  ihave Ho1' := (Entails.of_eq (pts_o1K (F := F) d L _).symm) $$ Ho1
  ihave Ha' := (Entails.of_eq (pts_aV (F := F) d L _).symm) $$ Ha
  ihave Hb' := (Entails.of_eq (pts_bV (F := F) d L _).symm) $$ Hb
  ihave Hr' := (Entails.of_eq (pts_rV (F := F) d L _).symm) $$ Hr
  sl_exec
  sl_for (fun k acc => scanned d L aV (row fs (rowNo L)) 0 k acc) $$ [Ha']
  case region =>
    rintro k ⟨m, i⟩
    exact trip d L aV _ (by omega) _ (k0_off2_eq k) m i _ fun hm hi v hv => Lanes.trip_step (b := 0) (k := k) (by omega) hm hi hv _ _
  · iapply (enter d L aV rfl rfl _ (fun j => fetched d fs (by unfold rowNo; omega) _ (off1_0 L) j)); iexact Ha'
  iintro %acc H
  ihave H' := (leave d L aV (n' := 1250) (by rw [trips_eq])) $$ H
  icases H' with ⟨%g1, %hacc, Ha'⟩
  subst hacc
  sl_exec
  sl_for (fun k acc => scanned d L bV (row fs (rowNo L)) 20000 (1250 + k) acc) $$ [Hb']
  case region =>
    rintro k ⟨m, i⟩
    exact trip d L bV _ (by omega) _ (k0_off3_eq k) m i _ fun hm hi v hv => Lanes.trip_step (b := 20000) (k := k) (by omega) hm hi hv _ _
  · iapply (enter d L bV rfl rfl _ (fun j => fetched d fs (by unfold rowNo; omega) _ (off1_1 L) j)); iexact Hb'
  iintro %acc H
  ihave H' := (leave d L bV (n' := 2500) (by rw [trips_eq])) $$ H
  icases H' with ⟨%g2, %hacc, Hb'⟩
  subst hacc
  sl_exec
  sl_for (fun k acc => scanned d L aV (row fs (rowNo L)) 40000 (2500 + k) acc) $$ [Ha']
  case region =>
    rintro k ⟨m, i⟩
    exact trip d L aV _ (by omega) _ (k0_off4_eq k) m i _ fun hm hi v hv => Lanes.trip_step (b := 40000) (k := k) (by omega) hm hi hv _ _
  · iapply (enter d L aV rfl rfl _ (fun j => fetched d fs (by unfold rowNo; omega) _ (off1_2 L) j)); iexact Ha'
  iintro %acc H
  ihave H' := (leave d L aV (n' := 3750) (by rw [trips_eq])) $$ H
  icases H' with ⟨%g3, %hacc, Ha'⟩
  subst hacc
  sl_exec
  sl_for (fun k acc => scanned d L bV (row fs (rowNo L)) 60000 (3750 + k) acc) $$ [Hb']
  case region =>
    rintro k ⟨m, i⟩
    exact trip d L bV _ (by omega) _ (k0_off5_eq k) m i _ fun hm hi v hv => Lanes.trip_step (b := 60000) (k := k) (by omega) hm hi hv _ _
  · iapply (enter d L bV rfl rfl _ (fun j => fetched d fs (by unfold rowNo; omega) _ (off1_3 L) j)); iexact Hb'
  iintro %acc H
  ihave H' := (leave d L bV (n' := 5000) (by rw [trips_eq])) $$ H
  icases H' with ⟨%g4, %hacc, Hb'⟩
  subst hacc
  sl_exec
  sl_for (fun k acc => scanned d L aV (row fs (rowNo L)) 80000 (5000 + k) acc) $$ [Ha']
  case region =>
    rintro k ⟨m, i⟩
    exact trip d L aV _ (by omega) _ (k0_off6_eq k) m i _ fun hm hi v hv => Lanes.trip_step (b := 80000) (k := k) (by omega) hm hi hv _ _
  · iapply (enter d L aV rfl rfl _ (fun j => fetched d fs (by unfold rowNo; omega) _ (off1_4 L) j)); iexact Ha'
  iintro %acc H
  ihave H' := (leave d L aV (n' := 6250) (by rw [trips_eq])) $$ H
  icases H' with ⟨%g5, %hacc, Ha'⟩
  subst hacc
  sl_exec (disch := exact (runA (row fs (rowNo L)) rfl rfl (c4 := tile_body.sl.v114 d L fs) (c5 := tile_body.sl.v125 d L fs) (c6 := tile_body.sl.v136 d L fs) (c7 := tile_body.sl.v147 d L fs) (c8 := tile_body.sl.v158 d L fs) (c9 := tile_body.sl.v169 d L fs)
    rfl rfl rfl rfl rfl rfl).1)
  sl_for (fun k acc => scanned d L bV (row fs (rowNo L + 1)) 0 k acc) $$ [Hb']
  case region =>
    rintro k ⟨m, i⟩
    exact trip d L bV _ (by omega) _ (k0_off10_eq k) m i _ fun hm hi v hv => Lanes.trip_step (b := 0) (k := k) (by omega) hm hi hv _ _
  · iapply (enter d L bV rfl rfl _ (fun j => fetched d fs (by unfold rowNo; omega) _ (off1_5 L) j)); iexact Hb'
  iintro %acc H
  ihave H' := (leave d L bV (n' := 1250) (by rw [trips_eq])) $$ H
  icases H' with ⟨%g6, %hacc, Hb'⟩
  subst hacc
  sl_exec
  sl_for (fun k acc => scanned d L aV (row fs (rowNo L + 1)) 20000 (1250 + k) acc) $$ [Ha']
  case region =>
    rintro k ⟨m, i⟩
    exact trip d L aV _ (by omega) _ (k0_off11_eq k) m i _ fun hm hi v hv => Lanes.trip_step (b := 20000) (k := k) (by omega) hm hi hv _ _
  · iapply (enter d L aV rfl rfl _ (fun j => fetched d fs rfl _ (off9_at L 1 rfl) j)); iexact Ha'
  iintro %acc H
  ihave H' := (leave d L aV (n' := 2500) (by rw [trips_eq])) $$ H
  icases H' with ⟨%g7, %hacc, Ha'⟩
  subst hacc
  sl_exec
  sl_for (fun k acc => scanned d L bV (row fs (rowNo L + 1)) 40000 (2500 + k) acc) $$ [Hb']
  case region =>
    rintro k ⟨m, i⟩
    exact trip d L bV _ (by omega) _ (k0_off12_eq k) m i _ fun hm hi v hv => Lanes.trip_step (b := 40000) (k := k) (by omega) hm hi hv _ _
  · iapply (enter d L bV rfl rfl _ (fun j => fetched d fs rfl _ (off9_at L 2 rfl) j)); iexact Hb'
  iintro %acc H
  ihave H' := (leave d L bV (n' := 3750) (by rw [trips_eq])) $$ H
  icases H' with ⟨%g8, %hacc, Hb'⟩
  subst hacc
  sl_exec
  sl_for (fun k acc => scanned d L aV (row fs (rowNo L + 1)) 60000 (3750 + k) acc) $$ [Ha']
  case region =>
    rintro k ⟨m, i⟩
    exact trip d L aV _ (by omega) _ (k0_off13_eq k) m i _ fun hm hi v hv => Lanes.trip_step (b := 60000) (k := k) (by omega) hm hi hv _ _
  · iapply (enter d L aV rfl rfl _ (fun j => fetched d fs rfl _ (off9_at L 3 rfl) j)); iexact Ha'
  iintro %acc H
  ihave H' := (leave d L aV (n' := 5000) (by rw [trips_eq])) $$ H
  icases H' with ⟨%g9, %hacc, Ha'⟩
  subst hacc
  sl_exec
  sl_for (fun k acc => scanned d L bV (row fs (rowNo L + 1)) 80000 (5000 + k) acc) $$ [Hb']
  case region =>
    rintro k ⟨m, i⟩
    exact trip d L bV _ (by omega) _ (k0_off14_eq k) m i _ fun hm hi v hv => Lanes.trip_step (b := 80000) (k := k) (by omega) hm hi hv _ _
  · iapply (enter d L bV rfl rfl _ (fun j => fetched d fs rfl _ (off9_at L 4 rfl) j)); iexact Hb'
  iintro %acc H
  ihave H' := (leave d L bV (n' := 6250) (by rw [trips_eq])) $$ H
  icases H' with ⟨%g10, %hacc, Hb'⟩
  subst hacc
  sl_exec (disch := exact (runB (row fs (rowNo L + 1)) rfl rfl (c1 := tile_body.sl.v306 d L fs) (c2 := tile_body.sl.v317 d L fs) (c3 := tile_body.sl.v328 d L fs) (c4 := tile_body.sl.v339 d L fs) (c5 := tile_body.sl.v350 d L fs) (c6 := tile_body.sl.v361 d L fs) (c7 := tile_body.sl.v372 d L fs) (c8 := tile_body.sl.v383 d L fs) (c9 := tile_body.sl.v394 d L fs) (c10 := tile_body.sl.v405 d L fs)
    rfl rfl rfl rfl rfl rfl rfl rfl rfl rfl).1)
  ihave Ho0'' := (Entails.of_eq (pointsTo_congr (landed d fs fx _ (k := rowNo L) (by unfold rowNo; omega) _ (k0_off8_eq L) (fun j =>
    (congrFun (View.read_write_univ (v := (rV).view) fr _) j).trans (looked d fx _ (runA (row fs (rowNo L)) rfl rfl
      (c4 := tile_body.sl.v114 d L fs) (c5 := tile_body.sl.v125 d L fs) (c6 := tile_body.sl.v136 d L fs) (c7 := tile_body.sl.v147 d L fs) (c8 := tile_body.sl.v158 d L fs) (c9 := tile_body.sl.v169 d L fs)
      rfl rfl rfl rfl rfl rfl).2 j))))) $$ Ho0'
  ihave Ho0 := (Entails.of_eq (pts_o0K d L _)) $$ Ho0''
  ihave Ho1'' := (Entails.of_eq (pointsTo_congr (landed d fs fx _ (k := rowNo L + 1) (by unfold rowNo; omega) _ (k0_off16_eq L) (fun j =>
    (congrFun (View.read_write_univ (v := (rV).view) _ _) j).trans (looked d fx _ (runB (row fs (rowNo L + 1)) rfl rfl
      (c1 := tile_body.sl.v306 d L fs) (c2 := tile_body.sl.v317 d L fs) (c3 := tile_body.sl.v328 d L fs) (c4 := tile_body.sl.v339 d L fs) (c5 := tile_body.sl.v350 d L fs) (c6 := tile_body.sl.v361 d L fs) (c7 := tile_body.sl.v372 d L fs) (c8 := tile_body.sl.v383 d L fs) (c9 := tile_body.sl.v394 d L fs) (c10 := tile_body.sl.v405 d L fs)
      rfl rfl rfl rfl rfl rfl rfl rfl rfl rfl).2 j))))) $$ Ho1'
  ihave Ho1 := (Entails.of_eq (pts_o1K d L _)) $$ Ho1''
  sl_step
  isplitl [Hs' Hx' Ho0 Ho1]
  · isplitl [Hs']; · iexact Hs'
    isplitl [Hx']; · iexact Hx'
    isplitl [Ho0]; · iexact Ho0
    iexact Ho1
  isplitl [Ha' Hb' Hr' Hbufs]
  · isplitl [Ha']; · iexists _; iexact Ha'
    isplitl [Hb']; · iexists _; iexact Hb'
    isplitl [Hr']; · iexists _; iexact Hr'
    iexact Hbufs
  isplitl [HsemA HsemB Hsem0 Hsem1 Hsem2 Hsem3 Hsems]
  · isplitl [HsemA]; · iexact HsemA
    isplitl [HsemB]; · iexact HsemB
    isplitl [Hsem0]; · iexact Hsem0
    isplitl [Hsem1]; · iexact Hsem1
    isplitl [Hsem2]; · iexact Hsem2
    isplitl [Hsem3]; · iexact Hsem3
    iexact Hsems
  iexists _
  isplitr
  rotate_left
  · iexact HO
  · ipureintro
    repeat' (first | exact fun _ h => Or.inl h | refine only_none ?_)

end Cert.KernelIdeal.Tile
-- ==== Proof.KernelIdeal.Deal.lean ====
/-
  The three flat arrays of the kernel, held whole, are the shares and the rows of the thirty-two tiles and a share of
  the scores and of the table that no tile is handed.
-/
module

public import proofs.«01_k».proof.Proof.KernelIdeal.Setup

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The tile of a SparseCore and a subcore, as a number below 32. -/
def tileEmb : Fin 2 × Fin 16 ↪ ℕ :=
  ⟨fun p => tileNo p.1.val p.2.val, fun p q h => by
    simp only [tileNo] at h
    exact Prod.ext (Fin.ext (by omega)) (Fin.ext (by omega))⟩

/-- The row of a tile and of 0 or 1. -/
def rowEmb : (Fin 2 × Fin 16) × Fin 2 ↪ Fin 64 :=
  ⟨fun p => krow p.1.1 p.1.2 p.2, fun p q h => by
    have h' := congrArg Fin.val h
    simp only [krow, tileNo] at h'
    exact Prod.ext (Prod.ext (Fin.ext (by omega)) (Fin.ext (by omega))) (Fin.ext (by omega))⟩

theorem tiles_all : (Finset.univ : Finset (Fin 2 × Fin 16)).map tileEmb = Finset.range 32 := by decide +kernel
theorem rows_all : (Finset.univ : Finset ((Fin 2 × Fin 16) × Fin 2)).map rowEmb = Finset.univ := by decide +kernel

/-- One assertion for each number below 32 is one for each tile. -/
theorem over_tiles (Φ : ℕ → sProp 𝕄) :
    bigSep (Finset.range 32) Φ
      = bigSep Finset.univ fun c : Fin 2 => bigSep Finset.univ fun s : Fin 16 => Φ (tileNo c.val s.val) := by
  rw [← tiles_all, bigSep_map, bigSep_univ_prod]; rfl

/-- One assertion for each row of the result is two for each tile. -/
theorem over_rows (Φ : Fin 64 → sProp 𝕄) :
    bigSep Finset.univ Φ
      = bigSep Finset.univ fun c : Fin 2 => bigSep Finset.univ fun s : Fin 16 => iprop(Φ (krow c s 0) ∗ Φ (krow c s 1)) := by
  rw [← rows_all, bigSep_map, bigSep_univ_prod, bigSep_univ_prod]
  exact bigSep_congr fun c _ => bigSep_congr fun s _ => bigSep_univ_two _

theorem orowSet_eq (k : Fin 64) : orowSet k = (orow k).set := View.set_slice_whole _ _

/-- Two different rows of the result have no entry in common. -/
theorem rows_apart : ∀ k ∈ (Finset.univ : Finset (Fin 64)), ∀ k' ∈ (Finset.univ : Finset (Fin 64)), k ≠ k' →
    Disjoint (orowSet k) (orowSet k') :=
  fun k _ k' _ h => by rw [orowSet_eq, orowSet_eq]; exact Rect.part_disjoint rows_dvd h

/-- The rows of the result are all of it. -/
theorem rows_cover : (Finset.univ : Finset (Fin 64)).biUnion orowSet = Finset.univ :=
  (Finset.biUnion_congr rfl fun k _ => orowSet_eq k).trans (Rect.biUnion_part rows_dvd)

/-- The result held whole is its rows, two for each tile. -/
theorem result_rows (d : Dev nD) (fo : Buf (Elt F) (oLoc d)) :
    (oLoc d ↦{fullShare} fo : sProp 𝕄)
      = bigSep Finset.univ fun c : Fin 2 => bigSep Finset.univ fun s : Fin 16 =>
          iprop((oLoc d ↦[orowSet (krow c s 0)]{fullShare} fo) ∗ (oLoc d ↦[orowSet (krow c s 1)]{fullShare} fo)) := by
  rw [← over_rows fun k => (oLoc d ↦[orowSet k]{fullShare} fo : sProp 𝕄),
    ← pointsTo_biUnion Finset.univ (ℓ := oLoc d) orowSet rows_apart, rows_cover]

/-- A buffer held whole is a share for each tile, and the rest of it. -/
theorem shares (ℓ : Loc nD τ sig) (f : Buf (Elt F) ℓ) :
    (ℓ ↦{fullShare} f : sProp 𝕄)
      = iprop((ℓ ↦{Transfers.shareDrop fullShare 32} f)
          ∗ bigSep Finset.univ fun c : Fin 2 => bigSep Finset.univ fun s : Fin 16 => ℓ ↦{shr c.val s.val} f) := by
  rw [← over_tiles fun n => (ℓ ↦{Transfers.shareTokN fullShare n} f : sProp 𝕄)]
  have h := Transfers.pointsTo_toks_range (ℓ := ℓ) (S := Finset.univ) (f := f) (Ix := HIx 1) (Name := ℕ) (U := UU) (Lvl := ℕ) fullShare 32
  exact equiv_iff.mp ⟨h.1, h.2⟩

/-- What no tile is handed: the rest of the scores and of the table. -/
abbrev kept (d : Dev nD) (fs : Buf (Elt F) (sLoc d)) (fx : Buf (Elt F) (xLoc d)) : sProp 𝕄 :=
  iprop((sLoc d ↦{Transfers.shareDrop fullShare 32} fs) ∗ (xLoc d ↦{Transfers.shareDrop fullShare 32} fx))

/-- What all the tiles are handed. -/
abbrev dealt (d : Dev nD) (fs : Buf (Elt F) (sLoc d)) (fx : Buf (Elt F) (xLoc d)) (fo : Buf (Elt F) (oLoc d)) : sProp 𝕄 :=
  bigSep Finset.univ fun c : Fin 2 => bigSep Finset.univ fun s : Fin 16 => given d c s fs fx fo

/-- The three arrays held whole are what the tiles are handed and the rest. -/
theorem deal (d : Dev nD) (fs : Buf (Elt F) (sLoc d)) (fx : Buf (Elt F) (xLoc d)) (fo : Buf (Elt F) (oLoc d)) :
    (iprop((sLoc d ↦{fullShare} fs) ∗ (xLoc d ↦{fullShare} fx) ∗ (oLoc d ↦{fullShare} fo)) : sProp 𝕄)
      ⊣⊢ iprop(kept d fs fx ∗ dealt d fs fx fo) := by
  have e : (dealt d fs fx fo : sProp 𝕄)
      = iprop((bigSep Finset.univ fun c : Fin 2 => bigSep Finset.univ fun s : Fin 16 => sLoc d ↦{shr c.val s.val} fs)
          ∗ (bigSep Finset.univ fun c : Fin 2 => bigSep Finset.univ fun s : Fin 16 => xLoc d ↦{shr c.val s.val} fx)
          ∗ (oLoc d ↦{fullShare} fo)) := by
    rw [result_rows]; unfold dealt given
    simp only [bigSep_sep']
  rw [e, shares (sLoc d) fs, shares (xLoc d) fx]
  constructor
  · iintro ⟨⟨Hs, Hss⟩, ⟨Hx, Hxs⟩, Ho⟩
    isplitl [Hs Hx]
    · isplitl [Hs] <;> iassumption
    isplitl [Hss]; · iexact Hss
    isplitl [Hxs] <;> iassumption
  · iintro ⟨⟨Hs, Hx⟩, Hss, Hxs, Ho⟩
    isplitl [Hs Hss]
    · isplitl [Hs] <;> iassumption
    isplitl [Hx Hxs]
    · isplitl [Hx] <;> iassumption
    iexact Ho

end Cert.KernelIdeal.Tile

end
-- ==== Proof.KernelIdeal.Launch.lean ====
/-
  The whole program: the two reshapes, the kernel's call from the three flat arrays, and the last reshape. It runs to
  its end on every launch memory, leaves its arguments alone, and its result is `gathered` of the launch memory.
-/
module

public import proofs.«01_k».proof.Proof.KernelIdeal.Tile
public import proofs.«01_k».proof.Proof.KernelIdeal.Deal

@[expose] public section

noncomputable section

namespace Cert.KernelIdeal.Tile

open Cert.KernelIdeal Cert.KernelIdeal.Gen

open Idealize.ShloMosaic
open Idealize.ShloMosaic.SparseCore (S V T)
open Idealize.ShloMosaic.StableHlo (held wp_hlo_within)
open Idealize.ShloMosaic.SparseCore.Cfg (HIx Pay tcRes tcEnd)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "sV" => (Memref.whole Cert.KernelIdeal.main_v0_scv : Memref Cert.KernelIdeal.sig Kind.scVector Space.hbm Cert.KernelIdeal.S6400000 EltTy.f32)
local notation "xV" => (Memref.whole Cert.KernelIdeal.main_v1_scv : Memref Cert.KernelIdeal.sig Kind.scVector Space.hbm Cert.KernelIdeal.S6400000 EltTy.f32)
local notation "oV" => (Memref.whole Cert.KernelIdeal.main_v2_scv : Memref Cert.KernelIdeal.sig Kind.scVector Space.hbm Cert.KernelIdeal.S4096 EltTy.f32)
local notation "aV" => (Memref.whole Cert.KernelIdeal.cc0_scratch0 : Memref Cert.KernelIdeal.sig Kind.scVector Space.vmem Cert.KernelIdeal.S20000 EltTy.f32)
local notation "bV" => (Memref.whole Cert.KernelIdeal.cc0_scratch1 : Memref Cert.KernelIdeal.sig Kind.scVector Space.vmem Cert.KernelIdeal.S20000 EltTy.f32)
local notation "rV" => (Memref.whole Cert.KernelIdeal.cc0_scratch2 : Memref Cert.KernelIdeal.sig Kind.scVector Space.vmem Cert.KernelIdeal.S64 EltTy.f32)

/-! ## What the arrays hold -/

variable (m : (ℓ : Loc nD τ sig) → Buf (Elt F) ℓ)

/-- An array of the host program on device `d`. -/
abbrev at' (d : Dev nD) (r : Ref sig .tc) : Loc nD τ sig := (SparseCore.T d).loc r

/-- The scores at launch, flat. -/
def scores (d : Dev nD) : Buf (Elt F) (sLoc d) :=
  shapeCast S6400000 (m (at' d main_arg1) : S64x100000x1.Idx → F .f32) shapeCasts_S64x100000x1_S6400000
/-- The table at launch, flat. -/
def table (d : Dev nD) : Buf (Elt F) (xLoc d) :=
  shapeCast S6400000 (m (at' d main_arg0) : S100000x64.Idx → F .f32) shapeCasts_S100000x64_S6400000

variable [FloatOps F]

/-- The flat result. -/
def flatResult (d : Dev nD) : Buf (Elt F) (oLoc d) := target (scores m d) (table m d)
/-- The program's result: for each row of the scores, the table's row at the place of the greatest score. -/
def gathered (d : Dev nD) : Buf (Elt F) (at' d main_v3) :=
  shapeCast S64x64 (flatResult m d : S4096.Idx → F .f32) shapeCasts_S4096_S64x64

/-! ## The call's pieces -/

theorem nCore_zero : (K (F := F)).nCore 0 = 2 := rfl
theorem nSub_zero : (K (F := F)).nSub 0 = 16 := rfl

/-- The call hands each tile its shares and its two rows, and gets the rows back at the flat result. -/
def P : (K (F := F)).Pay (nD := nD) (Val := Elt F) (Name := ℕ) (U := UU) where
  st := fun q d c => match q with
    | 0 => bigSep Finset.univ fun s : Fin 16 => given d (Fin.cast nCore_zero c) s (scores m d) (table m d) (m (oLoc d))
  dn := fun q d c => match q with
    | 0 => bigSep Finset.univ fun s : Fin 16 => given d (Fin.cast nCore_zero c) s (scores m d) (table m d) (flatResult m d)
  go := fun q d c i => match q with
    | 0 => given d (Fin.cast nCore_zero c) (Fin.cast nSub_zero i) (scores m d) (table m d) (m (oLoc d))
  td := fun q d c i => match q with
    | 0 => given d (Fin.cast nCore_zero c) (Fin.cast nSub_zero i) (scores m d) (table m d) (flatResult m d)
  x := fun _ _ => iprop(emp)

instance P_storable : (P (F := F) m).IsStorable where
  st q d c := match q with
    | 0 => (inferInstance : BI.Storable (upEmb : UEmb _ 𝕄)
      (bigSep Finset.univ fun s : Fin 16 => given d (Fin.cast nCore_zero c) s (scores m d) (table m d) (m (oLoc d))))
  dn q d c := match q with
    | 0 => (inferInstance : BI.Storable (upEmb : UEmb _ 𝕄)
      (bigSep Finset.univ fun s : Fin 16 => given d (Fin.cast nCore_zero c) s (scores m d) (table m d) (flatResult m d)))
  go q d c i := match q with
    | 0 => (inferInstance : BI.Storable (upEmb : UEmb _ 𝕄)
      (given d (Fin.cast nCore_zero c) (Fin.cast nSub_zero i) (scores m d) (table m d) (m (oLoc d))))
  td q d c i := match q with
    | 0 => (inferInstance : BI.Storable (upEmb : UEmb _ 𝕄)
      (given d (Fin.cast nCore_zero c) (Fin.cast nSub_zero i) (scores m d) (table m d) (flatResult m d)))

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_scan_argmax_gather (coordsV c s)
          sV (Memref.isWhole_whole _) xV (Memref.isWhole_whole _) oV (Memref.isWhole_whole _)
          aV (Memref.isWhole_whole _) bV (Memref.isWhole_whole _) rV (Memref.isWhole_whole _)
          cc0_scratch3 cc0_scratch4 cc0_scoped0 cc0_scoped1 cc0_scoped2 cc0_scoped3) ⟨⟩ c s := rfl

/-- Waits kept to those of before or of no call are kept to those of before, of no call, or of call `q`. -/
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr
  · ipureintro; exact fun p hp => (h p hp).imp_right .inl
  · iexact HO

set_option maxRecDepth 16384 in
/-- Each tile, from its pieces, leaves its pieces with its two rows at the flat result. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) scFacts O W hO (scores m d) (table m d) (m (oLoc d))).trans
    (wp_mono frame _ _ fun _ => post_weaken)

/-- A SparseCore's pieces are its tiles' pieces. -/
theorem vecSplit : (K (F := F)).VecSplit' (P m) 0 := by
  intro d c
  show (bigSep Finset.univ fun s : Fin 16 => given d (Fin.cast nCore_zero c) s (scores m d) (table m d) (m (oLoc d))) ⊢
    |={Set.univ}=> iprop(
      (bigSep Finset.univ fun s : Fin 16 => given d (Fin.cast nCore_zero c) s (scores m d) (table m d) (m (oLoc d)))
      ∗ ((bigSep Finset.univ fun s : Fin 16 => given d (Fin.cast nCore_zero c) s (scores m d) (table m d) (flatResult m d))
        -∗ (bigSep Finset.univ fun s : Fin 16 => given d (Fin.cast nCore_zero c) s (scores m d) (table m d) (flatResult m d))))
  iintro H; imodintro
  isplitl [H]; · iexact H
  iintro H; iexact H

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep (Finset.univ : Finset (Dev nD)) fun _ => iprop(emp))
        ∗ bigSep Finset.univ fun thr : Thread nD τ => bigSep Finset.univ fun q : Fin 1 => (P m).x q thr) := by
  have e : (bigSep Finset.univ fun thr : Thread nD τ => bigSep Finset.univ fun q : Fin 1 => (P (F := F) m).x q thr)
      = (iprop(emp) : sProp 𝕄) :=
    (bigSep_congr fun _ _ => bigSep_univ_of_subsingleton (0 : Fin 1)).trans (bigSep_emp_const _)
  rw [e, show (bigSep Finset.univ fun _ : Dev nD => iprop(emp)) = (iprop(emp) : sProp 𝕄) from bigSep_emp_const _]; unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The host program -/

/-- The arrays of the host program on a device, one by one. -/
theorem unscoped_eq (d : Dev nD) :
    (unscopedBufs d (fun b => m ((SparseCore.T d).loc b)) : sProp 𝕄)
      = iprop((at' d main_arg0 ↦{fullShare} m (at' d main_arg0)) ∗ (at' d main_arg1 ↦{fullShare} m (at' d main_arg1))
          ∗ (at' d main_arg2 ↦{fullShare} m (at' d main_arg2)) ∗ (sLoc d ↦{fullShare} m (sLoc d))
          ∗ (xLoc d ↦{fullShare} m (xLoc d)) ∗ (oLoc d ↦{fullShare} m (oLoc d)) ∗ (at' d main_v3 ↦{fullShare} m (at' d main_v3))) := by
  unfold unscopedBufs
  rw [show (Finset.univ.filter fun b : Ref sig .tc => ¬ b.isScoped)
      = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The contents of two arrays, and anything elsewhere. -/
def two (d : Dev nD) (x y : Ref sig .tc) (f : Buf (Elt F) (at' d x)) (g : Buf (Elt F) (at' d y)) : Valuation τ sig (Elt F) :=
  Function.update (Function.update (fun b => m (d, b)) (Proc.devRef .tc y) g) (Proc.devRef .tc x) f

theorem held_two (d : Dev nD) {x y : Ref sig .tc} (h : x ≠ y) (W : Valuation τ sig (Elt F)) :
    (held (SparseCore.T d) {Proc.devRef .tc x, Proc.devRef .tc y} W : sProp 𝕄)
      = iprop((at' d x ↦{fullShare} W (Proc.devRef .tc x)) ∗ (at' d y ↦{fullShare} W (Proc.devRef .tc y))) := by
  unfold held
  rw [SparseCore.bigSep_insert' (by rw [Finset.mem_singleton]; exact StableHlo.devRef_ne_of_ne h), bigSep_singleton]

theorem two_fst (d : Dev nD) (x y : Ref sig .tc) (f : Buf (Elt F) (at' d x)) (g : Buf (Elt F) (at' d y)) :
    two m d x y f g (Proc.devRef .tc x) = f := Function.update_self _ _ _
theorem two_snd (d : Dev nD) {x y : Ref sig .tc} (h : x ≠ y) (f : Buf (Elt F) (at' d x)) (g : Buf (Elt F) (at' d y)) :
    two m d x y f g (Proc.devRef .tc y) = g :=
  (Function.update_of_ne (StableHlo.devRef_ne_of_ne h.symm) _ _).trans (Function.update_self _ _ _)

include m in
/-- A reshape, from its operand and its result held whole: the operand is as it was, the result has the operand's
    elements in its own shape. -/
theorem wp_reshape (d : Dev nD) {α : Type} {x y : Ref sig .tc} (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : x ≠ y) {hp : (SparseCore.T d : Thread nD τ).2.kind.runsHlo = true}
    {k : ((b : (StableHlo.reshape (τ := τ) (Val := Elt F) x y he hn hx hy).writes) → b.1.ty.Contents (Elt F))
      → Prog (TpuEff nD τ sig (Elt F) (SparseCore.Sig (ΛP (F := F)) 1) (SparseCore.T d : Thread nD τ).2) α}
    {f : Buf (Elt F) (at' d x)} {g : Buf (Elt F) (at' d y)} {Q : α → sProp 𝕄} {r : α} (hk : ∀ v, k v = .ret r) :
    iprop(boundary (SparseCore.T d) ∗ (at' d x ↦{fullShare} f) ∗ (at' d y ↦{fullShare} g))
      ⊢ iprop(((boundary (SparseCore.T d) ∗ (at' d x ↦{fullShare} f)
            ∗ (at' d y ↦{fullShare} (fun i => he ▸ shapeCast y.ty.shape f hn i : Buf (Elt F) (at' d y)))) -∗ Q r)
        -∗ wp frame (wpE ((K (F := F)).defs (D (F := F))) 𝒱 (SparseCore.T d) none) Set.univ
            (hlo hp (StableHlo.reshape x y he hn hx hy) k) Q) := by
  have h1 : (held (SparseCore.T d) {Proc.devRef .tc x, Proc.devRef .tc y} (two m d x y f g) : sProp 𝕄)
      = iprop((at' d x ↦{fullShare} f) ∗ (at' d y ↦{fullShare} g)) := by
    rw [held_two d hxy, two_fst, two_snd m d hxy]
  have h2 : (held (SparseCore.T d) {Proc.devRef .tc x, Proc.devRef .tc y}
        ((StableHlo.reshape (τ := τ) (Val := Elt F) x y he hn hx hy).result (two m d x y f g)) : sProp 𝕄)
      = iprop((at' d x ↦{fullShare} f) ∗ (at' d y ↦{fullShare} (fun i => he ▸ shapeCast y.ty.shape f hn i : Buf (Elt F) (at' d y)))) := by
    rw [held_two d hxy, StableHlo.reshape_result, StableHlo.reshape_result_ne (he := he) (hn := hn) (hx := hx) (hy := hy) (h := hxy), two_fst]
  iintro ⟨Hb, Hx, Hy⟩ Hk
  iapply (wp_hlo_within 𝒱 (SparseCore.T d) none Set.univ (op := StableHlo.reshape x y he hn hx hy)
    (S := {Proc.devRef .tc x, Proc.devRef .tc y}) (Finset.Subset.refl _) (V := two m d x y f g)) $$ [Hb Hx Hy]
  · isplitl [Hb]; · iexact Hb
    rw [h1]
    isplitl [Hx] <;> iassumption
  iintro ⟨Hb, H⟩
  ihave H' := (Entails.of_eq h2) $$ H
  icases H' with ⟨Hx, Hy⟩
  rw [hk, wp_ret]; imodintro
  iapply Hk
  isplitl [Hb]; · iexact Hb
  isplitl [Hx] <;> iassumption

theorem st0_eq (d : Dev nD) : (bigSep Finset.univ fun c : Fin ((K (F := F)).nCore 0) => (P m).st 0 d c)
    = dealt d (scores m d) (table m d) (m (oLoc d)) := rfl
theorem dn0_eq (d : Dev nD) : (bigSep Finset.univ fun c : Fin ((K (F := F)).nCore 0) => (P m).dn 0 d c)
    = dealt d (scores m d) (table m d) (flatResult m d) := rfl

/-- What the host program leaves: its three arguments as they were, and its result. -/
abbrev FIN (d : Dev nD) : sProp 𝕄 :=
  iprop((at' d main_arg0 ↦{fullShare} m (at' d main_arg0)) ∗ (at' d main_arg1 ↦{fullShare} m (at' d main_arg1))
    ∗ (at' d main_arg2 ↦{fullShare} m (at' d main_arg2)) ∗ (at' d main_v3 ↦{fullShare} gathered m d))

variable (ρ : Dev nD → PrngReg)

/-- The host program: two reshapes, the call, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold tcRes tcEnd
  rw [unscoped_eq]
  simp only [main, wp_bind, wp_pure]
  iintro ⟨#Hctx, Hst, ⟨Hb, ⟨H0, H1, H2, Hs, Hx, Ho, H3⟩, Hts, -⟩, -⟩
  iapply (wp_reshape m d (x := main_arg1) (y := main_v0) rfl shapeCasts_S64x100000x1_S6400000 _ _ (by decide) (fun _ => rfl)) $$ [Hb H1 Hs]
  · isplitl [Hb]; · iexact Hb
    isplitl [H1] <;> iassumption
  iintro ⟨Hb, H1, Hs⟩
  iapply (wp_reshape m d (x := main_arg0) (y := main_v1) rfl shapeCasts_S100000x64_S6400000 _ _ (by decide) (fun _ => rfl)) $$ [Hb H0 Hx]
  · isplitl [Hb]; · iexact Hb
    isplitl [H0] <;> iassumption
  iintro ⟨Hb, H0, Hx⟩
  ihave Hd := ((deal d (scores m d) (table m d) (m (oLoc d))).1) $$ [Hs Hx Ho]
  · isplitl [Hs]; · iexact Hs
    isplitl [Hx]; · iexact Hx
    iexact Ho
  icases Hd with ⟨Hkept, Hdealt⟩
  iapply ((K (F := F)).wp_run (D (F := F)) 𝒱 (EH := EH) (P := P m) κ d 0) $$ [Hst Hdealt Hkept H0 H1 H2 H3 Hb Hts]
  isplitr; · iexact Hctx
  isplitl [Hst]; · iexact Hst
  isplitl [Hdealt]
  · rw [st0_eq]; iexact Hdealt
  iintro ⟨Hst, Hdn⟩
  ihave Hdealt := (Entails.of_eq (dn0_eq m d)) $$ Hdn
  ihave Hd := ((deal d (scores m d) (table m d) (flatResult m d)).2) $$ [Hkept Hdealt]
  · isplitl [Hkept] <;> iassumption
  icases Hd with ⟨-, -, Ho⟩
  iapply (wp_reshape m d (x := main_v2) (y := main_v3) rfl shapeCasts_S4096_S64x64 _ _ (by decide) (fun _ => rfl)) $$ [Hb Ho H3]
  · isplitl [Hb]; · iexact Hb
    isplitl [Ho] <;> iassumption
  iintro ⟨Hb, -, H3⟩
  imodintro
  isplitl [Hst]; · iexact Hst
  isplitr [Hb Hts]
  · isplitl [H0]; · iexact H0
    isplitl [H1]; · iexact H1
    isplitl [H2]; · iexact H2
    iexact H3
  isplitl [Hb] <;> iassumption

/-! ## The run -/

/-- A final state of device `d`: the arguments as at launch, the result in place. -/
def fq (d : Dev nD) (s' : Phys nD τ sig (Elt F)) : Prop :=
  (s'.mem.mem (at' d main_arg0) = m (at' d main_arg0) ∧ s'.mem.mem (at' d main_arg1) = m (at' d main_arg1)
    ∧ s'.mem.mem (at' d main_arg2) = m (at' d main_arg2)) ∧ s'.mem.mem (at' d main_v3) = gathered m d

/-- A buffer held whole beside the state has its contents there. -/
theorem holds_whole {ℓ : Loc nD τ sig} {f : Buf (Elt F) ℓ} {s' : Phys nD τ sig (Elt F)} :
    iprop(SI s' ∗ (ℓ ↦{fullShare} f)) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (holds_whole (ℓ := at' d main_arg0) (f := m (at' d main_arg0)) (s' := s')) $$ [HSI H0]
  · isplitl [HSI] <;> iassumption
  icases H with ⟨%h0, HSI⟩
  ihave H := (holds_whole (ℓ := at' d main_arg1) (f := m (at' d main_arg1)) (s' := s')) $$ [HSI H1]
  · isplitl [HSI] <;> iassumption
  icases H with ⟨%h1, HSI⟩
  ihave H := (holds_whole (ℓ := at' d main_arg2) (f := m (at' d main_arg2)) (s' := s')) $$ [HSI H2]
  · isplitl [HSI] <;> iassumption
  icases H with ⟨%h2, HSI⟩
  ihave H := (holds_whole (ℓ := at' d main_v3) (f := gathered m d) (s' := s')) $$ [HSI H3]
  · isplitl [HSI] <;> iassumption
  icases H with ⟨%h3, -⟩
  ipureintro; exact ⟨⟨h0, h1, h2⟩, h3⟩

/-- What every run ends in: on every device the arguments as at launch and the result in place, and no semaphore raised. -/
def Ends (r : PUnit × MemSt nD τ sig (Elt F)) : Prop :=
  (∀ c : Dev nD, (r.2.mem (at' c main_arg0) = m (at' c main_arg0) ∧ r.2.mem (at' c main_arg1) = m (at' c main_arg1)
    ∧ r.2.mem (at' c main_arg2) = m (at' c main_arg2)) ∧ r.2.mem (at' c main_v3) = gathered m c) ∧ r.2.sem = fun _ => 0

/-- Every run of the program, from any launch memory, ends so. -/
theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m)
    (fun _ h hz => ⟨h, hz⟩)

end Cert.KernelIdeal.Tile

end
-- ==== Proof.Answer.lean ====
/-
  The reference's result is the kernel's. On extended reals the number the reference finds for a row of scores is the
  one the kernel finds; it is a row of the table, so the reference's wrapping and filling do nothing; and both read the
  same row of the table, entry by entry.
-/
module

public import proofs.«01_k».proof.Proof.Greatest
public import proofs.«01_k».proof.Proof.Reference
public import proofs.«01_k».proof.Proof.KernelIdeal.Launch
public import Idealize.ShloMosaic.Lib.Pointwise.Index

@[expose] public section

noncomputable section

namespace Cert.Answer

open Cert.ReferenceIdeal Cert.ReferenceIdeal.Gen Cert.ReferenceIdeal.Host Cert.Greatest
open Idealize.ShloMosaic
open Cert.KernelIdeal.Tile (cell row target)

/-! ## Reading the table -/

/-- Words below 2 ^ 31 compared "at most" as signed integers are compared as numbers. -/
theorem sle_one {a b : BitVec 32} (ha : a.toNat < 2 ^ 31) (hb : b.toNat < 2 ^ 31) (h : a.toNat ≤ b.toNat) :
    IntOp.cmpi .sle a b = 1#1 := by
  simp only [IntOp.cmpi, ofBool_eq_one, BitVec.sle_eq_decide, decide_eq_true_iff, BitVec.toInt_eq_toNat_cond]
  omega

/-- The number read at for each row, when all are below 100000: nothing is wrapped. -/
theorem wrapped_apply {n : IVec S64 32} (h : ∀ k, (n k).toNat < 100000) (i : S64x1.Idx) :
    wrapped n i = n (ix1 (n0 := 64) (i 0)) := by
  have e : ∀ (x : IVec S64 32), broadcastInDim S64x1 ![0] bcast_S64_S64x1_0 x i = x (ix1 (n0 := 64) (i 0)) := fun x =>
    congrArg x (funext fun a => by obtain rfl := Subsingleton.elim a 0; rfl)
  rw [wrapped, e]
  show Scalar.select (IntOp.cmpi .slt (n _) 0#32) _ (n _) = n _
  refine if_neg fun c => ?_
  have := (slt_iff ((h _).trans (by decide)) (by decide)).1 c
  exact absurd this (Nat.not_lt_zero _)

/-- Then every number is within the table. -/
theorem within_wrapped {n : IVec S64 32} (h : ∀ k, (n k).toNat < 100000) (j : S64.Idx) : within (wrapped n) j = 1#1 := by
  rw [within, Host.reduce_eq_foldl]
  have one : ∀ L : List S64x1.Idx, L.foldl (fun r i => IntOp.andi r ((andi
      (cmpi .sge (wrapped n) (broadcastInDim S64x1 ![] bcast_S_S64x1 (constantI S_ 32 0#32)))
      (cmpi .sle (wrapped n) (broadcastInDim S64x1 ![0, 1] bcast_S1x1_S64x1_0_1
        (broadcastInDim S1x1 ![1] bcast_S1_S1x1_1 (constantI S1 32 99999#32))))) i)) 1#1 = 1#1 := by
    intro L
    induction L with
    | nil => rfl
    | cons i L ih =>
      have hi := h (ix1 (n0 := 64) (i 0))
      have e : IntOp.andi (IntOp.cmpi .sge (wrapped n i) 0#32) (IntOp.cmpi .sle (wrapped n i) 99999#32) = 1#1 := by
        rw [wrapped_apply h]
        exact and_eq_one.2 ⟨sle_one (by decide) (hi.trans (by decide)) (Nat.zero_le _),
          sle_one (hi.trans (by decide)) (by decide) (Nat.le_of_lt_succ hi)⟩
      rw [List.foldl_cons]
      exact (congrArg (fun b => List.foldl _ (IntOp.andi 1#1 b) L) e).trans ih
  exact one _

/-- Where the gather reads: the row of the table whose number it is given, and the column asked for. -/
theorem gather_row (w : IVec S64x1 32) (j : S64x64.Idx) {b : ℕ} (hb : b < 100000)
    (hw : w (ix2 (n0 := 64) (n1 := 1) (j 0) 0) = BitVec.ofNat 32 b) :
    gather_S100000x64_S64x1_S64x64_1_0_n_n_0_1_164.operandIdx j w = ix2 (n0 := 100000) (n1 := 64) ⟨b, hb⟩ (j 1) := by
  have at0 : ∀ c, gather_S100000x64_S64x1_S64x64_1_0_n_n_0_1_164.siIdx j c = ix2 (n0 := 64) (n1 := 1) (j 0) 0 := fun c => by
    funext a
    match a with
    | 0 => rfl
    | 1 => exact Subsingleton.elim (α := Fin 1) _ _
  funext a
  match a with
  | 0 =>
    refine Fin.ext (show min (w _).toInt.toNat 99999 + 0 + 0 = b from ?_)
    rw [at0, hw, BitVec.toInt_eq_toNat_cond, BitVec.toNat_ofNat]
    split <;> omega
  | 1 => exact Fin.ext (show 0 + 0 + (j 1).val = _ from by simp)

/-- The reference's result where the numbers found are all below 100000: the table's row at that number. -/
theorem taken_apply {F : FTy → Type} [FloatOps F] (x : FVec F S100000x64 .f32) {n : IVec S64 32}
    (h : ∀ k, (n k).toNat < 100000) (j : S64x64.Idx) :
    taken x n j = x (ix2 (n0 := 100000) (n1 := 64) ⟨(n (ix1 (n0 := 64) (j 0))).toNat, h _⟩ (j 1)) := by
  rw [taken]
  refine (if_pos (within_wrapped h _)).trans ?_
  refine congrArg x (gather_row _ j _ ?_)
  rw [wrapped_apply h, BitVec.ofNat_toNat, BitVec.setWidth_eq]; rfl

/-! ## The number found -/

/-- The reference's reducer takes the higher key. -/
theorem key_reducer {p q : Ideal .f32 × BitVec 32} (hp : p.2.toNat < 2 ^ 31) (hq : q.2.toNat < 2 ^ 31) :
    key (reducer_argmax_f32_i32 p q) = max (key p) (key q) := by
  have hc : IntOp.ori (FloatOps.cmpf .ogt p.1 q.1) (FloatOps.cmpf .une p.1 p.1) = 1#1 ↔ (q.1 : EReal) < p.1 :=
    or_eq_one.trans ((or_iff_left une_self).trans ogt_iff)
  have hd : IntOp.ori (IntOp.ori (FloatOps.cmpf .ogt p.1 q.1) (FloatOps.cmpf .une p.1 p.1))
      (IntOp.andi (FloatOps.cmpf .oeq p.1 q.1) (IntOp.cmpi .slt p.2 q.2)) = 1#1 ↔ key q < key p := by
    refine (or_eq_one.trans (or_congr hc (and_eq_one.trans (and_congr oeq_iff (slt_iff hp hq))))).trans ?_
    rw [key_lt, eq_comm (a := (p.1 : EReal))]
  exact key_select hc.2 (fun e => (hc.1 e).not_gt) hd.2 fun e => (hd.1 e).not_gt

/-- Row `k` of the scores, entry by entry. -/
abbrev scoreRow (s : FVec Ideal S64x100000x1 .f32) (k : ℕ) : ℕ → Ideal .f32 :=
  row (shapeCast Cert.KernelIdeal.S6400000 s Cert.KernelIdeal.Gen.shapeCasts_S64x100000x1_S6400000) k

/-- The scores without their last axis hold each row's entries. -/
theorem scores_apply (s : FVec Ideal S64x100000x1 .f32) (i : S64x100000.Idx) :
    shapeCast S64x100000 s shapeCasts_S64x100000x1_S64x100000 i = scoreRow s (i 0).val (i 1).val := by
  have h0 : (i 0).val < 64 := (i 0).isLt
  have h1 : (i 1).val < 100000 := (i 1).isLt
  refine congrArg s (Shape.reshapeEquiv_eq_of_rowMajor _ ?_)
  rw [Shape.rowMajor_reshapeEquiv, Shape.rowMajor_val_one, Shape.rowMajor_val_two]
  show (100000 * (i 0).val + (i 1).val) % 6400000 = (i 0).val * 100000 + (i 1).val
  omega

/-- The pairs the reference folds over for row `j` are the row's entries with their numbers. -/
theorem mem_pairs (s : FVec Ideal S64x100000x1 .f32) (j : S64.Idx) (q : Ideal .f32 × BitVec 32) :
    q ∈ Host.argReduceFiber (shapeCast S64x100000 s shapeCasts_S64x100000x1_S64x100000) (iotaInDim S64x100000 32 1)
      reducesTo_S64x100000_S64_d1 j ↔ ∃ i, i < 100000 ∧ q = (scoreRow s (j 0).val i, BitVec.ofNat 32 i) := by
  have drop : ∀ i : S64x100000.Idx, reducesTo_S64x100000_S64_d1.drop i = j ↔ (i 0).val = (j 0).val := fun i => by
    have e := Shape.ReducesTo.drop_apply_val_of_eq reducesTo_S64x100000_S64_d1 i 0 0
    constructor
    · rintro rfl; exact e.symm
    · intro h; funext a; obtain rfl := Subsingleton.elim a 0; exact Fin.ext (e.trans h)
  simp only [Host.argReduceFiber, List.mem_map, List.mem_filter, List.mem_finRange, true_and, decide_eq_true_iff, drop,
    scores_apply]
  constructor
  · rintro ⟨n, hn, rfl⟩
    exact ⟨_, (S64x100000.rowMajor.symm n 1).isLt, by rw [hn]; rfl⟩
  · rintro ⟨i, hi, rfl⟩
    refine ⟨S64x100000.rowMajor (ix2 (n0 := 64) (n1 := 100000) (j 0) ⟨i, hi⟩), ?_, ?_⟩
    · rw [Equiv.symm_apply_apply]; rfl
    · rw [Equiv.symm_apply_apply]; rfl

/-- The pair the reference's fold leaves for a row is the one the kernel is left with. -/
theorem fold_eq (s : FVec Ideal S64x100000x1 .f32) (j : S64.Idx) (p : Ideal .f32 × BitVec 32)
    (hp : p = (Scalar.ofBits .f32 0xFF800000#32, 0#32)) :
    (Host.argReduceFiber (shapeCast S64x100000 s shapeCasts_S64x100000x1_S64x100000) (iotaInDim S64x100000 32 1)
      reducesTo_S64x100000_S64_d1 j).foldl reducer_argmax_f32_i32 p = winner (scoreRow s (j 0).val) := by
  subst hp
  exact foldl_eq_winner (fun _ _ => key_reducer) (mem_pairs s j)

/-- The reference finds for each row the pair the kernel is left with. -/
theorem searched_apply (s : FVec Ideal S64x100000x1 .f32) (j : S64.Idx) :
    searched s j = winner (scoreRow s (j 0).val) := by
  rw [searched, Ideal.argReduce_eq_reduce2, Host.reduce2_eq_foldl_fiber]
  exact fold_eq s j _ rfl

/-- The number the reference finds for a row is the kernel's answer for it. -/
theorem found_apply (s : FVec Ideal S64x100000x1 .f32) (j : S64.Idx) :
    found s j = Lanes.best (scoreRow s (j 0).val) := by
  rw [found_def, number_apply, searched_apply, best_eq]

/-! ## The whole result -/

/-- The flat table holds row `b` of the table from its entry `64 * b` on. -/
theorem table_apply (x : FVec Ideal S100000x64 .f32) {b : ℕ} (hb : b < 100000) (c : Fin 64) :
    shapeCast Cert.KernelIdeal.S6400000 x Cert.KernelIdeal.Gen.shapeCasts_S100000x64_S6400000 (cell (64 * b + c.val))
      = x (ix2 (n0 := 100000) (n1 := 64) ⟨b, hb⟩ c) := by
  refine congrArg x (Shape.reshapeEquiv_eq_of_rowMajor _ ?_)
  rw [Shape.rowMajor_val_one, Shape.rowMajor_val_two]
  show b * 64 + c.val = (64 * b + c.val) % 6400000
  omega

/-- The flat result put in rows: entry `j` of the rows is entry `64 * j 0 + j 1` of the flat result. -/
theorem result_apply (f x : Cert.KernelIdeal.S6400000.Idx → Ideal .f32) (j : S64x64.Idx) :
    shapeCast Cert.KernelIdeal.S64x64 (target f x) Cert.KernelIdeal.Gen.shapeCasts_S4096_S64x64 j
      = x (cell (64 * (Lanes.best (row f (j 0).val)).toNat + (j 1).val)) := by
  have h1 : (j 1).val < 64 := (j 1).isLt
  obtain ⟨k, hk⟩ : ∃ k, k = Shape.reshapeEquiv Cert.KernelIdeal.Gen.shapeCasts_S4096_S64x64 j := ⟨_, rfl⟩
  have flat : (k 0).val = (j 0).val * 64 + (j 1).val := by
    have e := Shape.rowMajor_reshapeEquiv Cert.KernelIdeal.Gen.shapeCasts_S4096_S64x64 j
    rw [← hk] at e
    exact (Shape.rowMajor_val_one k).symm.trans (e.trans (Shape.rowMajor_val_two j))
  show target f x (Shape.reshapeEquiv Cert.KernelIdeal.Gen.shapeCasts_S4096_S64x64 j) = _
  rw [← hk, target, flat, show ((j 0).val * 64 + (j 1).val) / 64 = (j 0).val by omega,
    show ((j 0).val * 64 + (j 1).val) % 64 = (j 1).val by omega]

/-- The reference's result is the flat result of the kernel, put in rows. -/
theorem out_eq_gathered (x : FVec Ideal S100000x64 .f32) (s : FVec Ideal S64x100000x1 .f32) :
    out x s = shapeCast Cert.KernelIdeal.S64x64
      (target (shapeCast Cert.KernelIdeal.S6400000 s Cert.KernelIdeal.Gen.shapeCasts_S64x100000x1_S6400000)
        (shapeCast Cert.KernelIdeal.S6400000 x Cert.KernelIdeal.Gen.shapeCasts_S100000x64_S6400000))
      Cert.KernelIdeal.Gen.shapeCasts_S4096_S64x64 := by
  have lt : ∀ k, (found s k).toNat < 100000 := fun k => by rw [found_apply]; exact Lanes.best_lt _
  funext j
  rw [out, taken_apply x lt, result_apply, ← table_apply x (lt _) (j 1), found_apply]
  rfl

end Cert.Answer

end
-- ==== Proof.lean ====
/-
  The certificate assembled. Both programs run to the state `Ends` of their launch module; the reference runs to the
  state `Ends` of its own; and at the extended reals the two results are equal (`Answer.out_eq_gathered`).
-/
module

public import proofs.«01_k».proof.Defs
public import proofs.«01_k».proof.Proof.Kernel.Launch
public import proofs.«01_k».proof.Proof.Answer

@[expose] public section

noncomputable section

namespace Cert.Proof

open Idealize.ShloMosaic Idealize.SL.Sem

/-- From any memory the compiled program ends with its arguments unchanged and every semaphore at zero. -/
theorem kernel_quiescent : quiescent_Kernel (hKernel := Cert.Kernel.Gen.facts) := fun m g _ =>
  (θ_run _ _ _).mono (fun _ h => ⟨fun c => (h.1 c).1, h.2⟩) (Cert.Kernel.Tile.run_main (F := Bits) m g)

/-- So does the program over the extended reals, -/
theorem ideal_quiescent : quiescent_KernelIdeal (hKernelIdeal := Cert.KernelIdeal.Gen.facts) := fun m g _ =>
  (θ_run _ _ _).mono (fun _ h => ⟨fun c => (h.1 c).1, h.2⟩) (Cert.KernelIdeal.Tile.run_main (F := Ideal) m g)

/-- and so does the reference. -/
theorem reference_quiescent : quiescent_ReferenceIdeal (hReferenceIdeal := Cert.ReferenceIdeal.Gen.facts) :=
  fun m g _ => (θ_run _ _ _).mono (fun _ h => ⟨fun c => (h.1 c).1, h.2⟩)
    (Cert.ReferenceIdeal.Host.run_main (F := Ideal) m g)

/-- From memories that agree on the arguments, the program and the reference end with equal results over the extended
    reals: for each row of the scores, the row of the table that has the number of the row's greatest score. -/
theorem results_agree : algebraic_KernelIdeal_ReferenceIdeal (hKernelIdeal := Cert.KernelIdeal.Gen.facts)
    (hReferenceIdeal := Cert.ReferenceIdeal.Gen.facts) := fun m g m' g' _ agree =>
  ⟨Cert.KernelIdeal.Tile.gathered m,
    (θ_run _ _ _).mono (fun _ h c => ⟨(h.1 c).2, (h.1 c).1⟩) (Cert.KernelIdeal.Tile.run_main (F := Ideal) m g),
    (θ_run _ _ _).mono (fun _ h c => ⟨(h.1 c).2.trans (by
        rw [(agree c).1, (agree c).2.1]; exact Cert.Answer.out_eq_gathered _ _), (h.1 c).1⟩)
      (Cert.ReferenceIdeal.Host.run_main (F := Ideal) m' g')⟩

/-- Every claim of the certificate. -/
theorem claim : Cert.Claim :=
  ⟨Cert.Kernel.Gen.facts, Cert.KernelIdeal.Gen.facts, Cert.ReferenceIdeal.Gen.facts, kernel_quiescent, ideal_quiescent,
    reference_quiescent, trivial, results_agree⟩

end Cert.Proof

end
